-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_7) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_v121) = v6 c
          ∧ r.2.mem ((c.tc : Thread Cert.ReferenceIdeal.nD Cert.ReferenceIdeal.τ).loc Cert.ReferenceIdeal.main_v123) = v7 c
          ∧ r.2.mem ((c.tc : Thread Cert.ReferenceIdeal.nD Cert.ReferenceIdeal.τ).loc Cert.ReferenceIdeal.main_v126) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x5000x5 : Shape := ⟨3, ![2, 5000, 5]⟩
abbrev S2x20x5 : Shape := ⟨3, ![2, 20, 5]⟩
abbrev S4 : Shape := ⟨1, ![4]⟩
abbrev S2x100x4 : Shape := ⟨3, ![2, 100, 4]⟩
abbrev S2x5000x4 : Shape := ⟨3, ![2, 5000, 4]⟩
abbrev S2x20x4 : Shape := ⟨3, ![2, 20, 4]⟩
abbrev S2x5120x4 : Shape := ⟨3, ![2, 5120, 4]⟩
abbrev S2x4x5120 : Shape := ⟨3, ![2, 4, 5120]⟩
abbrev S2x4x40x128 : Shape := ⟨4, ![2, 4, 40, 128]⟩
abbrev S2x8x40x128 : Shape := ⟨4, ![2, 8, 40, 128]⟩
abbrev S2x1x40x128 : Shape := ⟨4, ![2, 1, 40, 128]⟩
abbrev S2x40x128 : Shape := ⟨3, ![2, 40, 128]⟩
abbrev S2x5120 : Shape := ⟨2, ![2, 5120]⟩
abbrev S2x1x5120 : Shape := ⟨3, ![2, 1, 5120]⟩
abbrev S2x5120x1 : Shape := ⟨3, ![2, 5120, 1]⟩
abbrev S2x6x40x128 : Shape := ⟨4, ![2, 6, 40, 128]⟩
abbrev S2x6x5120 : Shape := ⟨3, ![2, 6, 5120]⟩
abbrev S2x5120x6 : Shape := ⟨3, ![2, 5120, 6]⟩
abbrev S2x5120x10 : Shape := ⟨3, ![2, 5120, 10]⟩
abbrev S2x256x5 : Shape := ⟨3, ![2, 256, 5]⟩
abbrev S2x256x1 : Shape := ⟨3, ![2, 256, 1]⟩
abbrev S2x256x4 : Shape := ⟨3, ![2, 256, 4]⟩
abbrev S_ : Shape := ⟨0, ![]⟩
abbrev S2x256x9 : Shape := ⟨3, ![2, 256, 9]⟩
abbrev S2x256x2 : Shape := ⟨3, ![2, 256, 2]⟩
abbrev S2x256 : Shape := ⟨2, ![2, 256]⟩
abbrev S2x256x201 : Shape := ⟨3, ![2, 256, 201]⟩
abbrev S1x4x40x128 : Shape := ⟨4, ![1, 4, 40, 128]⟩
abbrev S1x20x5 : Shape := ⟨3, ![1, 20, 5]⟩
abbrev S1x8x40x128 : Shape := ⟨4, ![1, 8, 40, 128]⟩
abbrev S1x1x40x128 : Shape := ⟨4, ![1, 1, 40, 128]⟩
abbrev S40x128 : Shape := ⟨2, ![40, 128]⟩
abbrev S1x1x1 : Shape := ⟨3, ![1, 1, 1]⟩
abbrev S1x1x5120 : Shape := ⟨3, ![1, 1, 5120]⟩
abbrev S1x512x1 : Shape := ⟨3, ![1, 512, 1]⟩
abbrev S512x5120 : Shape := ⟨2, ![512, 5120]⟩
abbrev S1x5120 : Shape := ⟨2, ![1, 5120]⟩
abbrev S512x1 : Shape := ⟨2, ![512, 1]⟩
abbrev S512 : Shape := ⟨1, ![512]⟩
abbrev S1x5120x10 : Shape := ⟨3, ![1, 5120, 10]⟩
abbrev S1x256x5 : Shape := ⟨3, ![1, 256, 5]⟩
abbrev S1x256x1 : Shape := ⟨3, ![1, 256, 1]⟩
abbrev S1x256x4 : Shape := ⟨3, ![1, 256, 4]⟩
abbrev S256x5120 : Shape := ⟨2, ![256, 5120]⟩
abbrev S5120x10 : Shape := ⟨2, ![5120, 10]⟩
abbrev S256x10 : Shape := ⟨2, ![256, 10]⟩
abbrev S256x1 : Shape := ⟨2, ![256, 1]⟩
abbrev S256x4 : Shape := ⟨2, ![256, 4]⟩

abbrev nBuf : Space → Nat
  | .hbm => 41
  | .vmem => 30
  | .smem => 2
  | _ => 0

abbrev bufTy : (tb : Table) → Fin (tcTables nBuf tb) → BufTy
  | .hbm, ⟨0, _⟩ => ⟨S2x5000x5, .f32⟩
  | .hbm, ⟨1, _⟩ => ⟨S2x20x5, .f32⟩
  | .hbm, ⟨2, _⟩ => ⟨S4, .f32⟩
  | .hbm, ⟨3, _⟩ => ⟨S2x100x4, .f32⟩
  | .hbm, ⟨4, _⟩ => ⟨S2x5000x4, .f32⟩
  | .hbm, ⟨5, _⟩ => ⟨S2x20x4, .f32⟩
  | .hbm, ⟨6, _⟩ => ⟨S2x5120x4, .f32⟩
  | .hbm, ⟨7, _⟩ => ⟨S2x4x5120, .f32⟩
  | .hbm, ⟨8, _⟩ => ⟨S2x4x40x128, .f32⟩
  | .hbm, ⟨9, _⟩ => ⟨S2x8x40x128, .f32⟩
  | .hbm, ⟨10, _⟩ => ⟨S2x1x40x128, .f32⟩
  | .hbm, ⟨11, _⟩ => ⟨S2x40x128, .f32⟩
  | .hbm, ⟨12, _⟩ => ⟨S2x5120, .f32⟩
  | .hbm, ⟨13, _⟩ => ⟨S2x1x40x128, .f32⟩
  | .hbm, ⟨14, _⟩ => ⟨S2x40x128, .f32⟩
  | .hbm, ⟨15, _⟩ => ⟨S2x5120, .f32⟩
  | .hbm, ⟨16, _⟩ => ⟨S2x1x5120, .f32⟩
  | .hbm, ⟨17, _⟩ => ⟨S2x1x5120, .f32⟩
  | .hbm, ⟨18, _⟩ => ⟨S2x5120x1, .f32⟩
  | .hbm, ⟨19, _⟩ => ⟨S2x5120x1, .f32⟩
  | .hbm, ⟨20, _⟩ => ⟨S2x5120x1, .i32⟩
  | .hbm, ⟨21, _⟩ => ⟨S2x5120x1, .i32⟩
  | .hbm, ⟨22, _⟩ => ⟨S2x6x40x128, .f32⟩
  | .hbm, ⟨23, _⟩ => ⟨S2x6x5120, .f32⟩
  | .hbm, ⟨24, _⟩ => ⟨S2x5120x6, .f32⟩
  | .hbm, ⟨25, _⟩ => ⟨S2x5120x10, .f32⟩
  | .hbm, ⟨26, _⟩ => ⟨S2x1x5120, .i32⟩
  | .hbm, ⟨27, _⟩ => ⟨S2x1x5120, .i32⟩
  | .hbm, ⟨28, _⟩ => ⟨S2x256x5, .f32⟩
  | .hbm, ⟨29, _⟩ => ⟨S2x256x1, .f32⟩
  | .hbm, ⟨30, _⟩ => ⟨S2x256x4, .f32⟩
  | .hbm, ⟨31, _⟩ => ⟨S2x256x4, .f32⟩
  | .hbm, ⟨32, _⟩ => ⟨S_, .f32⟩
  | .hbm, ⟨33, _⟩ => ⟨S2x256x9, .f32⟩
  | .hbm, ⟨34, _⟩ => ⟨S_, .f32⟩
  | .hbm, ⟨35, _⟩ => ⟨S2x256x2, .f32⟩
  | .hbm, ⟨36, _⟩ => ⟨S2x256, .f32⟩
  | .hbm, ⟨37, _⟩ => ⟨S_, .f32⟩
  | .hbm, ⟨38, _⟩ => ⟨S2x256x201, .f32⟩
  | .hbm, ⟨39, _⟩ => ⟨S_, .f32⟩
  | .hbm, ⟨40, _⟩ => ⟨S2x256x1, .f32⟩
  | .local _ .vmem, ⟨0, _⟩ => ⟨S1x4x40x128, .f32⟩
  | .local _ .vmem, ⟨1, _⟩ => ⟨S1x4x40x128, .f32⟩
  | .local _ .vmem, ⟨2, _⟩ => ⟨S1x8x40x128, .f32⟩
  | .local _ .vmem, ⟨3, _⟩ => ⟨S1x8x40x128, .f32⟩
  | .local _ .vmem, ⟨4, _⟩ => ⟨S1x1x5120, .f32⟩
  | .local _ .vmem, ⟨5, _⟩ => ⟨S1x1x5120, .f32⟩
  | .local _ .vmem, ⟨6, _⟩ => ⟨S1x1x5120, .f32⟩
  | .local _ .vmem, ⟨7, _⟩ => ⟨S1x1x5120, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .i32⟩
  | .local _ .vmem, ⟨13, _⟩ => ⟨S1x512x1, .i32⟩
  | .local _ .vmem, ⟨14, _⟩ => ⟨S1x512x1, .i32⟩
  | .local _ .vmem, ⟨15, _⟩ => ⟨S1x512x1, .i32⟩
  | .local _ .vmem, ⟨16, _⟩ => ⟨S1x1x5120, .i32⟩
  | .local _ .vmem, ⟨17, _⟩ => ⟨S1x1x5120, .i32⟩
  | .local _ .vmem, ⟨18, _⟩ => ⟨S1x1x5120, .i32⟩
  | .local _ .vmem, ⟨19, _⟩ => ⟨S1x1x5120, .i32⟩
  | .local _ .vmem, ⟨20, _⟩ => ⟨S1x5120x10, .f32⟩
  | .local _ .vmem, ⟨21, _⟩ => ⟨S1x5120x10, .f32⟩
  | .local _ .vmem, ⟨22, _⟩ => ⟨S1x256x5, .f32⟩
  | .local _ .vmem, ⟨23, _⟩ => ⟨S1x256x5, .f32⟩
  | .local _ .vmem, ⟨24, _⟩ => ⟨S1x256x1, .f32⟩
  | .local _ .vmem, ⟨25, _⟩ => ⟨S1x256x1, .f32⟩
  | .local _ .vmem, ⟨26, _⟩ => ⟨S1x256x4, .f32⟩
  | .local _ .vmem, ⟨27, _⟩ => ⟨S1x256x4, .f32⟩
  | .local _ .vmem, ⟨28, _⟩ => ⟨S1x256x4, .f32⟩
  | .local _ .vmem, ⟨29, _⟩ => ⟨S1x256x4, .f32⟩
  | .local _ .smem, ⟨0, _⟩ => ⟨S1x20x5, .f32⟩
  | .local _ .smem, ⟨1, _⟩ => ⟨S1x20x5, .f32⟩
  | _, _ => ⟨S2x5000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17_0 : Ref sig .tc := ⟨.hbm, 20, rfl⟩
abbrev main_call0_v17_1 : Ref sig .tc := ⟨.hbm, 21, rfl⟩
abbrev main_call0_v18 : Ref sig .tc := ⟨.hbm, 22, rfl⟩
abbrev main_call0_v19 : Ref sig .tc := ⟨.hbm, 23, rfl⟩
abbrev main_call0_v20 : Ref sig .tc := ⟨.hbm, 24, rfl⟩
abbrev main_call0_v21 : Ref sig .tc := ⟨.hbm, 25, rfl⟩
abbrev main_call0_v22 : Ref sig .tc := ⟨.hbm, 26, rfl⟩
abbrev main_call0_v23 : Ref sig .tc := ⟨.hbm, 27, rfl⟩
abbrev main_v0_0 : Ref sig .tc := ⟨.hbm, 28, rfl⟩
abbrev main_call0_v24_1 : Ref sig .tc := ⟨.hbm, 29, rfl⟩
abbrev main_v0_6 : Ref sig .tc := ⟨.hbm, 30, rfl⟩
abbrev main_v0_7 : Ref sig .tc := ⟨.hbm, 31, rfl⟩
abbrev main_call0_cst_0 : Ref sig .tc := ⟨.hbm, 32, rfl⟩
abbrev main_v0_1 : Ref sig .tc := ⟨.hbm, 33, rfl⟩
abbrev main_call0_cst_1 : Ref sig .tc := ⟨.hbm, 34, rfl⟩
abbrev main_v0_2 : Ref sig .tc := ⟨.hbm, 35, rfl⟩
abbrev main_v0_3 : Ref sig .tc := ⟨.hbm, 36, rfl⟩
abbrev main_call0_cst_2 : Ref sig .tc := ⟨.hbm, 37, rfl⟩
abbrev main_v0_4 : Ref sig .tc := ⟨.hbm, 38, rfl⟩
abbrev main_call0_cst_3 : Ref sig .tc := ⟨.hbm, 39, rfl⟩
abbrev main_v0_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x20x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x40x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x5120 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x5120 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x5120 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x5120x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x4 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S2x5000x5 : Shape := ⟨3, ![2, 5000, 5]⟩
abbrev S2x20x5 : Shape := ⟨3, ![2, 20, 5]⟩
abbrev S2 : Shape := ⟨1, ![2]⟩
abbrev S2x1x1 : Shape := ⟨3, ![2, 1, 1]⟩
abbrev S2x5000x4 : Shape := ⟨3, ![2, 5000, 4]⟩
abbrev S2x20x4 : Shape := ⟨3, ![2, 20, 4]⟩
abbrev S2x5020x4 : Shape := ⟨3, ![2, 5020, 4]⟩
abbrev S2x5020x2 : Shape := ⟨3, ![2, 5020, 2]⟩
abbrev S_ : Shape := ⟨0, ![]⟩
abbrev S2x20x2 : Shape := ⟨3, ![2, 20, 2]⟩
abbrev S2x5020x1 : Shape := ⟨3, ![2, 5020, 1]⟩
abbrev S2x5020 : Shape := ⟨2, ![2, 5020]⟩
abbrev S2x20x1 : Shape := ⟨3, ![2, 20, 1]⟩
abbrev S2x20 : Shape := ⟨2, ![2, 20]⟩
abbrev S2x1x20 : Shape := ⟨3, ![2, 1, 20]⟩
abbrev S2x5020x1x2 : Shape := ⟨4, ![2, 5020, 1, 2]⟩
abbrev S2x1x20x2 : Shape := ⟨4, ![2, 1, 20, 2]⟩
abbrev S2x5020x20x2 : Shape := ⟨4, ![2, 5020, 20, 2]⟩
abbrev S2x5020x20x1 : Shape := ⟨4, ![2, 5020, 20, 1]⟩
abbrev S2x5020x20 : Shape := ⟨3, ![2, 5020, 20]⟩
abbrev S2x64 : Shape := ⟨2, ![2, 64]⟩
abbrev S2x192 : Shape := ⟨2, ![2, 192]⟩
abbrev S2x256 : Shape := ⟨2, ![2, 256]⟩
abbrev S2x256x1 : Shape := ⟨3, ![2, 256, 1]⟩
abbrev S2x256x4 : Shape := ⟨3, ![2, 256, 4]⟩
abbrev S2x256x5 : Shape := ⟨3, ![2, 256, 5]⟩
abbrev S2x256x2 : Shape := ⟨3, ![2, 256, 2]⟩
abbrev S256 : Shape := ⟨1, ![256]⟩
abbrev S1x256 : Shape := ⟨2, ![1, 256]⟩
abbrev S4 : Shape := ⟨1, ![4]⟩
abbrev S2x256x201 : Shape := ⟨3, ![2, 256, 201]⟩
abbrev S2x256x9 : Shape := ⟨3, ![2, 256, 9]⟩

abbrev nBuf : Space → Nat
  | .hbm => 213
  | .vmem => 0
  | .smem => 0
  | _ => 0

abbrev hbmTy0_0 (i : Nat) : BufTy := match i % 128 with
  | 0 => ⟨S2x5000x5, .f32⟩
  | 1 => ⟨S2x20x5, .f32⟩
  | 2 => ⟨S2, .f32⟩
  | 3 => ⟨S2x1x1, .f32⟩
  | 4 => ⟨S2x5000x4, .f32⟩
  | 5 => ⟨S2x20x4, .f32⟩
  | 6 => ⟨S2x5020x4, .f32⟩
  | 7 => ⟨S2x20x4, .f32⟩
  | 8 => ⟨S2x5020x2, .f32⟩
  | 9 => ⟨S2x5020x2, .f32⟩
  | 10 => ⟨S2x5020x2, .f32⟩
  | 11 => ⟨S_, .f32⟩
  | 12 => ⟨S2x5020x2, .f32⟩
  | 13 => ⟨S2x5020x2, .f32⟩
  | 14 => ⟨S2x20x2, .f32⟩
  | 15 => ⟨S2x20x2, .f32⟩
  | 16 => ⟨S2x20x2, .f32⟩
  | 17 => ⟨S_, .f32⟩
  | 18 => ⟨S2x20x2, .f32⟩
  | 19 => ⟨S2x20x2, .f32⟩
  | 20 => ⟨S2x5020x1, .f32⟩
  | 21 => ⟨S2x5020, .f32⟩
  | 22 => ⟨S2x5020x1, .f32⟩
  | 23 => ⟨S2x5020, .f32⟩
  | 24 => ⟨S2x5020, .f32⟩
  | 25 => ⟨S2x5020x1, .f32⟩
  | 26 => ⟨S2x20x1, .f32⟩
  | 27 => ⟨S2x20, .f32⟩
  | 28 => ⟨S2x20x1, .f32⟩
  | 29 => ⟨S2x20, .f32⟩
  | 30 => ⟨S2x20, .f32⟩
  | 31 => ⟨S2x1x20, .f32⟩
  | 32 => ⟨S2x5020x2, .f32⟩
  | 33 => ⟨S2x5020x1x2, .f32⟩
  | 34 => ⟨S2x20x2, .f32⟩
  | 35 => ⟨S2x1x20x2, .f32⟩
  | 36 => ⟨S2x5020x20x2, .f32⟩
  | 37 => ⟨S2x5020x20x2, .f32⟩
  | 38 => ⟨S2x5020x20x2, .f32⟩
  | 39 => ⟨S2x5020x2, .f32⟩
  | 40 => ⟨S2x5020x1x2, .f32⟩
  | 41 => ⟨S2x20x2, .f32⟩
  | 42 => ⟨S2x1x20x2, .f32⟩
  | 43 => ⟨S2x5020x20x2, .f32⟩
  | 44 => ⟨S2x5020x20x2, .f32⟩
  | 45 => ⟨S2x5020x20x2, .f32⟩
  | 46 => ⟨S2x5020x20x2, .f32⟩
  | 47 => ⟨S_, .f32⟩
  | 48 => ⟨S2x5020x20x2, .f32⟩
  | 49 => ⟨S2x5020x20x2, .f32⟩
  | 50 => ⟨S_, .f32⟩
  | 51 => ⟨S2x5020x20x2, .f32⟩
  | 52 => ⟨S2x5020x20x2, .f32⟩
  | 53 => ⟨S2x5020x20x1, .f32⟩
  | 54 => ⟨S2x5020x20, .f32⟩
  | 55 => ⟨S2x5020x20x1, .f32⟩
  | 56 => ⟨S2x5020x20, .f32⟩
  | 57 => ⟨S2x5020x20, .f32⟩
  | 58 => ⟨S2x5020x20, .f32⟩
  | 59 => ⟨S2x5020x20, .f32⟩
  | 60 => ⟨S2x5020x20, .f32⟩
  | 61 => ⟨S2x5020x20, .f32⟩
  | 62 => ⟨S2x5020x20, .f32⟩
  | 63 => ⟨S_, .f32⟩
  | 64 => ⟨S2x5020, .f32⟩
  | 65 => ⟨S2x5020x20, .i32⟩
  | 66 => ⟨S_, .f32⟩
  | 67 => ⟨S_, .i32⟩
  | 68 => ⟨S2x5020, .f32⟩
  | 69 => ⟨S2x5020, .i32⟩
  | 70 => ⟨S_, .f32⟩
  | 71 => ⟨S2x5020, .f32⟩
  | 72 => ⟨S2x5020, .i1⟩
  | 73 => ⟨S_, .f32⟩
  | 74 => ⟨S2x5020, .f32⟩
  | 75 => ⟨S2x5020, .i1⟩
  | 76 => ⟨S_, .f32⟩
  | 77 => ⟨S2x5020, .f32⟩
  | 78 => ⟨S2x5020, .i1⟩
  | 79 => ⟨S2x5020, .i1⟩
  | 80 => ⟨S_, .f32⟩
  | 81 => ⟨S_, .f32⟩
  | 82 => ⟨S2x5020, .f32⟩
  | 83 => ⟨S2x5020, .f32⟩
  | 84 => ⟨S_, .f32⟩
  | 85 => ⟨S_, .f32⟩
  | 86 => ⟨S2x5020, .f32⟩
  | 87 => ⟨S2x5020, .f32⟩
  | 88 => ⟨S2x64, .f32⟩
  | 89 => ⟨S2x64, .i32⟩
  | 90 => ⟨S2x192, .f32⟩
  | 91 => ⟨S2x192, .i32⟩
  | 92 => ⟨S2x256, .i32⟩
  | 93 => ⟨S2x256x1, .i32⟩
  | 94 => ⟨S_, .i32⟩
  | 95 => ⟨S2x256x1, .i32⟩
  | 96 => ⟨S2x256x1, .i1⟩
  | 97 => ⟨S_, .i32⟩
  | 98 => ⟨S2x256x1, .i32⟩
  | 99 => ⟨S2x256x1, .i32⟩
  | 100 => ⟨S2x256x1, .i32⟩
  | 101 => ⟨S2x256x4, .f32⟩
  | 102 => ⟨S2x256x1, .f32⟩
  | 103 => ⟨S2x256x5, .f32⟩
  | 104 => ⟨S_, .i32⟩
  | 105 => ⟨S2x256, .i32⟩
  | 106 => ⟨S2x256, .i1⟩
  | 107 => ⟨S_, .i32⟩
  | 108 => ⟨S2x256, .i32⟩
  | 109 => ⟨S2x256, .i32⟩
  | 110 => ⟨S2x256, .i32⟩
  | 111 => ⟨S2x256x1, .i32⟩
  | 112 => ⟨S2x256, .i32⟩
  | 113 => ⟨S2x256x1, .i32⟩
  | 114 => ⟨S_, .i32⟩
  | 115 => ⟨S2x256x1, .i32⟩
  | 116 => ⟨S2x256x1, .i1⟩
  | 117 => ⟨S_, .i32⟩
  | 118 => ⟨S2x256x1, .i32⟩
  | 119 => ⟨S2x256x1, .i32⟩
  | 120 => ⟨S2x256x1, .i32⟩
  | 121 => ⟨S2x256x5, .f32⟩
  | 122 => ⟨S2x256x4, .f32⟩
  | 123 => ⟨S2x256x2, .f32⟩
  | 124 => ⟨S2x256x2, .f32⟩
  | 125 => ⟨S2x256x2, .f32⟩
  | 126 => ⟨S_, .f32⟩
  | 127 => ⟨S2x256x2, .f32⟩
  | _ => ⟨S2x5000x5, .f32⟩

abbrev hbmTy0_1 (i : Nat) : BufTy := match i % 128 with
  | 0 => ⟨S2x256x2, .f32⟩
  | 1 => ⟨S2x256x2, .f32⟩
  | 2 => ⟨S2x256x2, .f32⟩
  | 3 => ⟨S2x256x2, .f32⟩
  | 4 => ⟨S_, .f32⟩
  | 5 => ⟨S2x256x2, .f32⟩
  | 6 => ⟨S2x256x2, .f32⟩
  | 7 => ⟨S2x256x2, .f32⟩
  | 8 => ⟨S_, .f32⟩
  | 9 => ⟨S2x256x2, .f32⟩
  | 10 => ⟨S2x256x2, .f32⟩
  | 11 => ⟨S2x256x2, .f32⟩
  | 12 => ⟨S2x256x2, .f32⟩
  | 13 => ⟨S_, .f32⟩
  | 14 => ⟨S2x256x2, .f32⟩
  | 15 => ⟨S2x256x2, .f32⟩
  | 16 => ⟨S2x256x2, .f32⟩
  | 17 => ⟨S2x256x2, .f32⟩
  | 18 => ⟨S2x256x2, .f32⟩
  | 19 => ⟨S_, .f32⟩
  | 20 => ⟨S2x256x2, .f32⟩
  | 21 => ⟨S2x256x2, .f32⟩
  | 22 => ⟨S_, .f32⟩
  | 23 => ⟨S2x256x2, .f32⟩
  | 24 => ⟨S2x256x2, .f32⟩
  | 25 => ⟨S2x256x2, .f32⟩
  | 26 => ⟨S2x256x2, .f32⟩
  | 27 => ⟨S_, .f32⟩
  | 28 => ⟨S2x256x2, .f32⟩
  | 29 => ⟨S2x256x2, .f32⟩
  | 30 => ⟨S_, .f32⟩
  | 31 => ⟨S2x256x2, .f32⟩
  | 32 => ⟨S2x256x2, .f32⟩
  | 33 => ⟨S2x256x4, .f32⟩
  | 34 => ⟨S256, .i32⟩
  | 35 => ⟨S_, .i32⟩
  | 36 => ⟨S256, .i32⟩
  | 37 => ⟨S256, .i1⟩
  | 38 => ⟨S1x256, .i1⟩
  | 39 => ⟨S_, .i32⟩
  | 40 => ⟨S2x256, .i32⟩
  | 41 => ⟨S2x256, .i1⟩
  | 42 => ⟨S_, .i32⟩
  | 43 => ⟨S2x256, .i32⟩
  | 44 => ⟨S2x256, .i32⟩
  | 45 => ⟨S2x256, .i32⟩
  | 46 => ⟨S2x256x1, .i32⟩
  | 47 => ⟨S2x256, .i1⟩
  | 48 => ⟨S2x256, .i1⟩
  | 49 => ⟨S2x256, .i1⟩
  | 50 => ⟨S2x256x1, .f32⟩
  | 51 => ⟨S2x256, .f32⟩
  | 52 => ⟨S_, .f32⟩
  | 53 => ⟨S_, .f32⟩
  | 54 => ⟨S2x256, .f32⟩
  | 55 => ⟨S2x256, .f32⟩
  | 56 => ⟨S_, .f32⟩
  | 57 => ⟨S2x256, .f32⟩
  | 58 => ⟨S2x256, .i1⟩
  | 59 => ⟨S2x256x1, .i1⟩
  | 60 => ⟨S_, .f32⟩
  | 61 => ⟨S_, .f32⟩
  | 62 => ⟨S2x256x4, .i1⟩
  | 63 => ⟨S2x256x4, .f32⟩
  | 64 => ⟨S2x256x4, .f32⟩
  | 65 => ⟨S_, .f32⟩
  | 66 => ⟨S4, .f32⟩
  | 67 => ⟨S_, .f32⟩
  | 68 => ⟨S_, .f32⟩
  | 69 => ⟨S2x256x4, .i1⟩
  | 70 => ⟨S2x256x4, .f32⟩
  | 71 => ⟨S2x256x4, .f32⟩
  | 72 => ⟨S2x256x4, .f32⟩
  | 73 => ⟨S_, .f32⟩
  | 74 => ⟨S2x256x4, .f32⟩
  | 75 => ⟨S2x256x4, .i1⟩
  | 76 => ⟨S2x256x4, .f32⟩
  | 77 => ⟨S_, .f32⟩
  | 78 => ⟨S2x256x201, .f32⟩
  | 79 => ⟨S_, .f32⟩
  | 80 => ⟨S2x256x1, .f32⟩
  | 81 => ⟨S_, .f32⟩
  | 82 => ⟨S2x256x9, .f32⟩
  | 83 => ⟨S_, .f32⟩
  | 84 => ⟨S2x256x2, .f32⟩
  | _ => ⟨S2x5000x5, .f32⟩

abbrev hbmTy (i : Nat) : BufTy := match i / 128 with
  | 0 => hbmTy0_0 i
  | 1 => hbmTy0_1 i
  | _ => ⟨S2x5000x5, .f32⟩

abbrev bufTy : (tb : Table) → Fin (tcTables nBuf tb) → BufTy
  | .hbm, ⟨i, _⟩ => hbmTy i
  | _, _ => ⟨S2x5000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_3 : Ref sig .tc := ⟨.hbm, 63, rfl⟩
abbrev main_v57 : Ref sig .tc := ⟨.hbm, 64, rfl⟩
abbrev main_call0_v0 : Ref sig .tc := ⟨.hbm, 65, rfl⟩
abbrev main_call0_cst : Ref sig .tc := ⟨.hbm, 66, rfl⟩
abbrev main_call0_c : Ref sig .tc := ⟨.hbm, 67, rfl⟩
abbrev main_call0_v1_0 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_call1_v0 : Ref sig .tc := ⟨.hbm, 81, rfl⟩
abbrev main_call1_v1 : Ref sig .tc := ⟨.hbm, 82, rfl⟩
abbrev main_v66 : Ref sig .tc := ⟨.hbm, 83, rfl⟩
abbrev main_cst_8 : Ref sig .tc := ⟨.hbm, 84, rfl⟩
abbrev main_call2_v0 : Ref sig .tc := ⟨.hbm, 85, rfl⟩
abbrev main_call2_v1 : Ref sig .tc := ⟨.hbm, 86, rfl⟩
abbrev main_v67 : Ref sig .tc := ⟨.hbm, 87, rfl⟩
abbrev main_values : Ref sig .tc := ⟨.hbm, 88, rfl⟩
abbrev main_indices : Ref sig .tc := ⟨.hbm, 89, rfl⟩
abbrev main_values_9 : Ref sig .tc := ⟨.hbm, 90, rfl⟩
abbrev main_indices_10 : Ref sig .tc := ⟨.hbm, 91, rfl⟩
abbrev main_v68 : Ref sig .tc := ⟨.hbm, 92, rfl⟩
abbrev main_v69 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_v73 : Ref sig .tc := ⟨.hbm, 112, rfl⟩
abbrev main_v74 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_11 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_12 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_13 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_14 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_15 : Ref sig .tc := ⟨.hbm, 147, rfl⟩
abbrev main_v97 : Ref sig .tc := ⟨.hbm, 148, rfl⟩
abbrev main_v98 : Ref sig .tc := ⟨.hbm, 149, rfl⟩
abbrev main_cst_16 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_17 : Ref sig .tc := ⟨.hbm, 155, rfl⟩
abbrev main_v103 : Ref sig .tc := ⟨.hbm, 156, rfl⟩
abbrev main_v104 : Ref sig .tc := ⟨.hbm, 157, rfl⟩
abbrev main_cst_18 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_19 : Ref sig .tc := ⟨.hbm, 180, rfl⟩
abbrev main_call7_v0 : Ref sig .tc := ⟨.hbm, 181, rfl⟩
abbrev main_call7_v1 : Ref sig .tc := ⟨.hbm, 182, rfl⟩
abbrev main_v117 : Ref sig .tc := ⟨.hbm, 183, rfl⟩
abbrev main_cst_20 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_21 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_v121 : Ref sig .tc := ⟨.hbm, 192, rfl⟩
abbrev main_cst_22 : Ref sig .tc := ⟨.hbm, 193, rfl⟩
abbrev main_v122 : Ref sig .tc := ⟨.hbm, 194, rfl⟩
abbrev main_cst_23 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_call9_v3 : Ref sig .tc := ⟨.hbm, 199, rfl⟩
abbrev main_v123 : Ref sig .tc := ⟨.hbm, 200, rfl⟩
abbrev main_cst_24 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_25 : Ref sig .tc := ⟨.hbm, 205, rfl⟩
abbrev main_v127 : Ref sig .tc := ⟨.hbm, 206, rfl⟩
abbrev main_cst_26 : Ref sig .tc := ⟨.hbm, 207, rfl⟩
abbrev main_v128 : Ref sig .tc := ⟨.hbm, 208, rfl⟩
abbrev main_cst_27 : Ref sig .tc := ⟨.hbm, 209, rfl⟩
abbrev main_v129 : Ref sig .tc := ⟨.hbm, 210, rfl⟩
abbrev main_cst_28 : Ref sig .tc := ⟨.hbm, 211, rfl⟩
abbrev main_v130 : Ref sig .tc := ⟨.hbm, 212, rfl⟩

abbrev nD : Nat := 1
abbrev τ : Topo := Topo.v7x

variable {F : FTy → Type} [FloatOps F]
-- ==== Proof.ReferenceOps.lean ====
/- The reference program's operations as lists, window by window, that the program is these lists, and the value each
   operation's result takes, as a term of the arguments (`res_main_vN`). -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v4`, named. It packs its operands into a list of dependent pairs
    whose shapes a later argument's type mentions, so `simp` cannot rewrite an operand where it stands; applied by
    name, the operands are plain arguments, which the window lemmas below rewrite before the name unfolds. -/
def fn_main_v4 : (⟨S2x5000x4, .f32⟩ : BufTy).Contents (Elt F) → (⟨S2x20x4, .f32⟩ : BufTy).Contents (Elt F) → (⟨S2x5020x4, .f32⟩ : BufTy).Contents (Elt F) :=
  (fun a b => concatenate S2x5020x4 1 [⟨S2x5000x4, a⟩, ⟨S2x20x4, b⟩] concatenates_S2x5000x4_S2x20x4_S2x5020x4_d1)

/-- The function of the operation that writes `main_v68`, named. It packs its operands into a list of dependent pairs
    whose shapes a later argument's type mentions, so `simp` cannot rewrite an operand where it stands; applied by
    name, the operands are plain arguments, which the window lemmas below rewrite before the name unfolds. -/
def fn_main_v68 : (⟨S2x64, .i32⟩ : BufTy).Contents (Elt F) → (⟨S2x192, .i32⟩ : BufTy).Contents (Elt F) → (⟨S2x256, .i32⟩ : BufTy).Contents (Elt F) :=
  (fun a b => concatenate S2x256 1 [⟨S2x64, a⟩, ⟨S2x192, b⟩] concatenates_S2x64_S2x192_S2x256_d1)

/-- The function of the operation that writes `main_v72`, named. It packs its operands into a list of dependent pairs
    whose shapes a later argument's type mentions, so `simp` cannot rewrite an operand where it stands; applied by
    name, the operands are plain arguments, which the window lemmas below rewrite before the name unfolds. -/
def fn_main_v72 : (⟨S2x256x1, .f32⟩ : BufTy).Contents (Elt F) → (⟨S2x256x4, .f32⟩ : BufTy).Contents (Elt F) → (⟨S2x256x5, .f32⟩ : BufTy).Contents (Elt F) :=
  (fun a b => concatenate S2x256x5 2 [⟨S2x256x1, a⟩, ⟨S2x256x4, b⟩] concatenates_S2x256x1_S2x256x4_S2x256x5_d2)

/-- The function of the operation that writes `main_v107`, named. It packs its operands into a list of dependent pairs
    whose shapes a later argument's type mentions, so `simp` cannot rewrite an operand where it stands; applied by
    name, the operands are plain arguments, which the window lemmas below rewrite before the name unfolds. -/
def fn_main_v107 : (⟨S2x256x2, .f32⟩ : BufTy).Contents (Elt F) → (⟨S2x256x2, .f32⟩ : BufTy).Contents (Elt F) → (⟨S2x256x4, .f32⟩ : BufTy).Contents (Elt F) :=
  (fun a b => concatenate S2x256x4 2 [⟨S2x256x2, a⟩, ⟨S2x256x2, b⟩] concatenates_S2x256x2_S2x256x2_S2x256x4_d2)

/-- @main's operations 1 … 60 of 211 (window `main_part0`). -/
abbrev ops_part0 : List (HloOp τ sig (Elt F)) :=
  [ nullary main_v0 (sitofp .f32 (iotaInDim S2 32 0)),
    unary main_v0 main_v1 (broadcastInDim S2x1x1 ![0] bcast_S2_S2x1x1_0 : (⟨S2, .f32⟩ : BufTy).Contents (Elt F) → (⟨S2x1x1, .f32⟩ : BufTy).Contents (Elt F)),
    unary main_arg0 main_v2 ((extractStridedSlice S2x5000x4 ![0, 0, 1] · slices_S2x5000x5_S2x5000x4_0_0_1) : (⟨S2x5000x5, .f32⟩ : BufTy).Contents (Elt F) → (⟨S2x5000x4, .f32⟩ : BufTy).Contents (Elt F)),
    unary main_arg1 main_v3 ((extractStridedSlice S2x20x4 ![0, 0, 0] · slices_S2x20x5_S2x20x4_0_0_0) : (⟨S2x20x5, .f32⟩ : BufTy).Contents (Elt F) → (⟨S2x20x4, .f32⟩ : BufTy).Contents (Elt F)),
    binary main_v2 main_v3 main_v4 (fn_main_v4 (F := F)),
    unary main_arg1 main_v5 ((extractStridedSlice S2x20x4 ![0, 0, 0] · slices_S2x20x5_S2x20x4_0_0_0) : (⟨S2x20x5, .f32⟩ : BufTy).Contents (Elt F) → (⟨S2x20x4, .f32⟩ : BufTy).Contents (Elt F)),
    unary main_v4 main_v6 ((extractStridedSlice S2x5020x2 ![0, 0, 2] · slices_S2x5020x4_S2x5020x2_0_0_2) : (⟨S2x5020x4, .f32⟩ : BufTy).Contents (Elt F) → (⟨S2x5020x2, .f32⟩ : BufTy).Contents (Elt F)),
    unary main_v4 main_v7 ((extractStridedSlice S2x5020x2 ![0, 0, 0] · slices_S2x5020x4_S2x5020x2_0_0_0) : (⟨S2x5020x4, .f32⟩ : BufTy).Contents (Elt F) → (⟨S2x5020x2, .f32⟩ : BufTy).Contents (Elt F)),
    binary main_v6 main_v7 main_v8 (subf : (⟨S2x5020x2, .f32⟩ : BufTy).Contents (Elt F) → (⟨S2x5020x2, .f32⟩ : BufTy).Contents (Elt F) → (⟨S2x5020x2, .f32⟩ : BufTy).Contents (Elt F)),
    nullary main_cst (constant S_ .f32 0x3F800000#32),
    unary main_cst main_v9 (broadcastInDim S2x5020x2 ![] bcast_S_S2x5020x2 : (⟨S_, .f32⟩ : BufTy).Contents (Elt F) → (⟨S2x5020x2, .f32⟩ : BufTy).Contents (Elt F)),
    binary main_v8 main_v9 main_v10 (addf : (⟨S2x5020x2, .f32⟩ : BufTy).Contents (Elt F) → (⟨S2x5020x2, .f32⟩ : BufTy).Contents (Elt F) → (⟨S2x5020x2, .f32⟩ : BufTy).Contents (Elt F)),
    unary main_v5 main_v11 ((extractStridedSlice S2x20x2 ![0, 0, 2] · slices_S2x20x4_S2x20x2_0_0_2) : (⟨S2x20x4, .f32⟩ : BufTy).Contents (Elt F) → (⟨S2x20x2, .f32⟩ : BufTy).Contents (Elt F)),
    unary main_v5 main_v12 ((extractStridedSlice S2x20x2 ![0, 0, 0] · slices_S2x20x4_S2x20x2_0_0_0) : (⟨S2x20x4, .f32⟩ : BufTy).Contents (Elt F) → (⟨S2x20x2, .f32⟩ : BufTy).Contents (Elt F)),
    binary main_v11 main_v12 main_v13 (subf : (⟨S2x20x2, .f32⟩ : BufTy).Contents (Elt F) → (⟨S2x20x2, .f32⟩ : BufTy).Contents (Elt F) → (⟨S2x20x2, .f32⟩ : BufTy).Contents (Elt F)),
    nullary main_cst_0 (constant S_ .f32 0x3F800000#32),
    unary main_cst_0 main_v14 (broadcastInDim S2x20x2 ![] bcast_S_S2x20x2 : (⟨S_, .f32⟩ : BufTy).Contents (Elt F) → (⟨S2x20x2, .f32⟩ : BufTy).Contents (Elt F)),
    binary main_v13 main_v14 main_v15 (addf : (⟨S2x20x2, .f32⟩ : BufTy).Contents (Elt F) → (⟨S2x20x2, .f32⟩ : BufTy).Contents (Elt F) → (⟨S2x20x2, .f32⟩ : BufTy).Contents (Elt F)),
    unary main_v10 main_v16 ((extractStridedSlice S2x5020x1 ![0, 0, 0] · slices_S2x5020x2_S2x5020x1_0_0_0) : (⟨S2x5020x2, .f32⟩ : BufTy).Contents (Elt F) → (⟨S2x5020x1, .f32⟩ : BufTy).Contents (Elt F)),
    reshape main_v16 main_v17 (rfl : (.f32 : EltTy) = .f32) shapeCasts_S2x5020x1_S2x5020,
    unary main_v10 main_v18 ((extractStridedSlice S2x5020x1 ![0, 0, 1] · slices_S2x5020x2_S2x5020x1_0_0_1) : (⟨S2x5020x2, .f32⟩ : BufTy).Contents (Elt F) → (⟨S2x5020x1, .f32⟩ : BufTy).Contents (Elt F)),
    reshape main_v18 main_v19 (rfl : (.f32 : EltTy) = .f32) shapeCasts_S2x5020x1_S2x5020,
    binary main_v17 main_v19 main_v20 (mulf : (⟨S2x5020, .f32⟩ : BufTy).Contents (Elt F) → (⟨S2x5020, .f32⟩ : BufTy).Contents (Elt F) → (⟨S2x5020, .f32⟩ : BufTy).Contents (Elt F)),
    unary main_v20 main_v21 (broadcastInDim S2x5020x1 ![0, 1] bcast_S2x5020_S2x5020x1_0_1 : (⟨S2x5020, .f32⟩ : BufTy).Contents (Elt F) → (⟨S2x5020x1, .f32⟩ : BufTy).Contents (Elt F)),
    unary main_v15 main_v22 ((extractStridedSlice S2x20x1 ![0, 0, 0] · slices_S2x20x2_S2x20x1_0_0_0) : (⟨S2x20x2, .f32⟩ : BufTy).Contents (Elt F) → (⟨S2x20x1, .f32⟩ : BufTy).Contents (Elt F)),
    reshape main_v22 main_v23 (rfl : (.f32 : EltTy) = .f32) shapeCasts_S2x20x1_S2x20,
    unary main_v15 main_v24 ((extractStridedSlice S2x20x1 ![0, 0, 1] · slices_S2x20x2_S2x20x1_0_0_1) : (⟨S2x20x2, .f32⟩ : BufTy).Contents (Elt F) → (⟨S2x20x1, .f32⟩ : BufTy).Contents (Elt F)),
    reshape main_v24 main_v25 (rfl : (.f32 : EltTy) = .f32) shapeCasts_S2x20x1_S2x20,
    binary main_v23 main_v25 main_v26 (mulf : (⟨S2x20, .f32⟩ : BufTy).Contents (Elt F) → (⟨S2x20, .f32⟩ : BufTy).Contents (Elt F) → (⟨S2x20, .f32⟩ : BufTy).Contents (Elt F)),
    unary main_v26 main_v27 (broadcastInDim S2x1x20 ![0, 2] bcast_S2x20_S2x1x20_0_2 : (⟨S2x20, .f32⟩ : BufTy).Contents (Elt F) → (⟨S2x1x20, .f32⟩ : BufTy).Contents (Elt F)),
    unary main_v4 main_v28 ((extractStridedSlice S2x5020x2 ![0, 0, 0] · slices_S2x5020x4_S2x5020x2_0_0_0) : (⟨S2x5020x4, .f32⟩ : BufTy).Contents (Elt F) → (⟨S2x5020x2, .f32⟩ : BufTy).Contents (Elt F)),
    unary main_v28 main_v29 (broadcastInDim S2x5020x1x2 ![0, 1, 3] bcast_S2x5020x2_S2x5020x1x2_0_1_3 : (⟨S2x5020x2, .f32⟩ : BufTy).Contents (Elt F) → (⟨S2x5020x1x2, .f32⟩ : BufTy).Contents (Elt F)),
    unary main_v5 main_v30 ((extractStridedSlice S2x20x2 ![0, 0, 0] · slices_S2x20x4_S2x20x2_0_0_0) : (⟨S2x20x4, .f32⟩ : BufTy).Contents (Elt F) → (⟨S2x20x2, .f32⟩ : BufTy).Contents (Elt F)),
    unary main_v30 main_v31 (broadcastInDim S2x1x20x2 ![0, 2, 3] bcast_S2x20x2_S2x1x20x2_0_2_3 : (⟨S2x20x2, .f32⟩ : BufTy).Contents (Elt F) → (⟨S2x1x20x2, .f32⟩ : BufTy).Contents (Elt F)),
    unary main_v29 main_v32 (broadcastInDim S2x5020x20x2 ![0, 1, 2, 3] bcast_S2x5020x1x2_S2x5020x20x2_0_1_2_3 : (⟨S2x5020x1x2, .f32⟩ : BufTy).Contents (Elt F) → (⟨S2x5020x20x2, .f32⟩ : BufTy).Contents (Elt F)),
    unary main_v31 main_v33 (broadcastInDim S2x5020x20x2 ![0, 1, 2, 3] bcast_S2x1x20x2_S2x5020x20x2_0_1_2_3 : (⟨S2x1x20x2, .f32⟩ : BufTy).Contents (Elt F) → (⟨S2x5020x20x2, .f32⟩ : BufTy).Contents (Elt F)),
    binary main_v32 main_v33 main_v34 (maximumf : (⟨S2x5020x20x2, .f32⟩ : BufTy).Contents (Elt F) → (⟨S2x5020x20x2, .f32⟩ : BufTy).Contents (Elt F) → (⟨S2x5020x20x2, .f32⟩ : BufTy).Contents (Elt F)),
    unary main_v4 main_v35 ((extractStridedSlice S2x5020x2 ![0, 0, 2] · slices_S2x5020x4_S2x5020x2_0_0_2) : (⟨S2x5020x4, .f32⟩ : BufTy).Contents (Elt F) → (⟨S2x5020x2, .f32⟩ : BufTy).Contents (Elt F)),
    unary main_v35 main_v36 (broadcastInDim S2x5020x1x2 ![0, 1, 3] bcast_S2x5020x2_S2x5020x1x2_0_1_3 : (⟨S2x5020x2, .f32⟩ : BufTy).Contents (Elt F) → (⟨S2x5020x1x2, .f32⟩ : BufTy).Contents (Elt F)),
    unary main_v5 main_v37 ((extractStridedSlice S2x20x2 ![0, 0, 2] · slices_S2x20x4_S2x20x2_0_0_2) : (⟨S2x20x4, .f32⟩ : BufTy).Contents (Elt F) → (⟨S2x20x2, .f32⟩ : BufTy).Contents (Elt F)),
    unary main_v37 main_v38 (broadcastInDim S2x1x20x2 ![0, 2, 3] bcast_S2x20x2_S2x1x20x2_0_2_3 : (⟨S2x20x2, .f32⟩ : BufTy).Contents (Elt F) → (⟨S2x1x20x2, .f32⟩ : BufTy).Contents (Elt F)),
    unary main_v36 main_v39 (broadcastInDim S2x5020x20x2 ![0, 1, 2, 3] bcast_S2x5020x1x2_S2x5020x20x2_0_1_2_3 : (⟨S2x5020x1x2, .f32⟩ : BufTy).Contents (Elt F) → (⟨S2x5020x20x2, .f32⟩ : BufTy).Contents (Elt F)),
    unary main_v38 main_v40 (broadcastInDim S2x5020x20x2 ![0, 1, 2, 3] bcast_S2x1x20x2_S2x5020x20x2_0_1_2_3 : (⟨S2x1x20x2, .f32⟩ : BufTy).Contents (Elt F) → (⟨S2x5020x20x2, .f32⟩ : BufTy).Contents (Elt F)),
    binary main_v39 main_v40 main_v41 (minimumf : (⟨S2x5020x20x2, .f32⟩ : BufTy).Contents (Elt F) → (⟨S2x5020x20x2, .f32⟩ : BufTy).Contents (Elt F) → (⟨S2x5020x20x2, .f32⟩ : BufTy).Contents (Elt F)),
    binary main_v41 main_v34 main_v42 (subf : (⟨S2x5020x20x2, .f32⟩ : BufTy).Contents (Elt F) → (⟨S2x5020x20x2, .f32⟩ : BufTy).Contents (Elt F) → (⟨S2x5020x20x2, .f32⟩ : BufTy).Contents (Elt F)),
    nullary main_cst_1 (constant S_ .f32 0x3F800000#32),
    unary main_cst_1 main_v43 (broadcastInDim S2x5020x20x2 ![] bcast_S_S2x5020x20x2 : (⟨S_, .f32⟩ : BufTy).Contents (Elt F) → (⟨S2x5020x20x2, .f32⟩ : BufTy).Contents (Elt F)),
    binary main_v42 main_v43 main_v44 (addf : (⟨S2x5020x20x2, .f32⟩ : BufTy).Contents (Elt F) → (⟨S2x5020x20x2, .f32⟩ : BufTy).Contents (Elt F) → (⟨S2x5020x20x2, .f32⟩ : BufTy).Contents (Elt F)),
    nullary main_cst_2 (constant S_ .f32 0x00000000#32),
    unary main_cst_2 main_v45 (broadcastInDim S2x5020x20x2 ![] bcast_S_S2x5020x20x2 : (⟨S_, .f32⟩ : BufTy).Contents (Elt F) → (⟨S2x5020x20x2, .f32⟩ : BufTy).Contents (Elt F)),
    binary main_v44 main_v45 main_v46 (maximumf : (⟨S2x5020x20x2, .f32⟩ : BufTy).Contents (Elt F) → (⟨S2x5020x20x2, .f32⟩ : BufTy).Contents (Elt F) → (⟨S2x5020x20x2, .f32⟩ : BufTy).Contents (Elt F)),
    unary main_v46 main_v47 ((extractStridedSlice S2x5020x20x1 ![0, 0, 0, 0] · slices_S2x5020x20x2_S2x5020x20x1_0_0_0_0) : (⟨S2x5020x20x2, .f32⟩ : BufTy).Contents (Elt F) → (⟨S2x5020x20x1, .f32⟩ : BufTy).Contents (Elt F)),
    reshape main_v47 main_v48 (rfl : (.f32 : EltTy) = .f32) shapeCasts_S2x5020x20x1_S2x5020x20,
    unary main_v46 main_v49 ((extractStridedSlice S2x5020x20x1 ![0, 0, 0, 1] · slices_S2x5020x20x2_S2x5020x20x1_0_0_0_1) : (⟨S2x5020x20x2, .f32⟩ : BufTy).Contents (Elt F) → (⟨S2x5020x20x1, .f32⟩ : BufTy).Contents (Elt F)),
    reshape main_v49 main_v50 (rfl : (.f32 : EltTy) = .f32) shapeCasts_S2x5020x20x1_S2x5020x20,
    binary main_v48 main_v50 main_v51 (mulf : (⟨S2x5020x20, .f32⟩ : BufTy).Contents (Elt F) → (⟨S2x5020x20, .f32⟩ : BufTy).Contents (Elt F) → (⟨S2x5020x20, .f32⟩ : BufTy).Contents (Elt F)),
    unary main_v21 main_v52 (broadcastInDim S2x5020x20 ![0, 1, 2] bcast_S2x5020x1_S2x5020x20_0_1_2 : (⟨S2x5020x1, .f32⟩ : BufTy).Contents (Elt F) → (⟨S2x5020x20, .f32⟩ : BufTy).Contents (Elt F)),
    unary main_v27 main_v53 (broadcastInDim S2x5020x20 ![0, 1, 2] bcast_S2x1x20_S2x5020x20_0_1_2 : (⟨S2x1x20, .f32⟩ : BufTy).Contents (Elt F) → (⟨S2x5020x20, .f32⟩ : BufTy).Contents (Elt F)),
    binary main_v52 main_v53 main_v54 (addf : (⟨S2x5020x20, .f32⟩ : BufTy).Contents (Elt F) → (⟨S2x5020x20, .f32⟩ : BufTy).Contents (Elt F) → (⟨S2x5020x20, .f32⟩ : BufTy).Contents (Elt F)),
    binary main_v54 main_v51 main_v55 (subf : (⟨S2x5020x20, .f32⟩ : BufTy).Contents (Elt F) → (⟨S2x5020x20, .f32⟩ : BufTy).Contents (Elt F) → (⟨S2x5020x20, .f32⟩ : BufTy).Contents (Elt F)) ]

/-- @main's operations 61 … 90 of 211 (window `main_part1`). -/
abbrev ops_part1_0 : List (HloOp τ sig (Elt F)) :=
  [ binary main_v51 main_v55 main_v56 (Host.divf : (⟨S2x5020x20, .f32⟩ : BufTy).Contents (Elt F) → (⟨S2x5020x20, .f32⟩ : BufTy).Contents (Elt F) → (⟨S2x5020x20, .f32⟩ : BufTy).Contents (Elt F)),
    nullary main_cst_3 (constant S_ .f32 0xFF800000#32),
    binary main_v56 main_cst_3 main_v57 ((fun x v => Host.reduce FloatOps.maximumf x v reducesTo_S2x5020x20_S2x5020_d2 h_S_) : (⟨S2x5020x20, .f32⟩ : BufTy).Contents (Elt F) → (⟨S_, .f32⟩ : BufTy).Contents (Elt F) → (⟨S2x5020, .f32⟩ : BufTy).Contents (Elt F)),
    TRef.nullary (TRef.of (T := ⟨S2x5020x20, .i32⟩) main_call0_v0) (iotaInDim S2x5020x20 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2x5020x20, .f32⟩) main_v56) (TRef.of (T := ⟨S2x5020x20, .i32⟩) main_call0_v0) (TRef.of (T := ⟨S_, .f32⟩) main_call0_cst) (TRef.of (T := ⟨S_, .i32⟩) main_call0_c) (TRef.of (T := ⟨S2x5020, .f32⟩) main_call0_v1_0) (fun x y u v j => (Host.argReduce reducer_argmax_f32_i32 x y u v reducesTo_S2x5020x20_S2x5020_d2 h_S_ j).1),
    TRef.quaternary (TRef.of (T := ⟨S2x5020x20, .f32⟩) main_v56) (TRef.of (T := ⟨S2x5020x20, .i32⟩) main_call0_v0) (TRef.of (T := ⟨S_, .f32⟩) main_call0_cst) (TRef.of (T := ⟨S_, .i32⟩) main_call0_c) (TRef.of (T := ⟨S2x5020, .i32⟩) main_v58) (fun x y u v j => (Host.argReduce reducer_argmax_f32_i32 x y u v reducesTo_S2x5020x20_S2x5020_d2 h_S_ j).2),
    nullary main_cst_4 (constant S_ .f32 0x3F000000#32),
    unary main_cst_4 main_v59 (broadcastInDim S2x5020 ![] bcast_S_S2x5020 : (⟨S_, .f32⟩ : BufTy).Contents (Elt F) → (⟨S2x5020, .f32⟩ : BufTy).Contents (Elt F)),
    binary main_v57 main_v59 main_v60 (cmpf .oge : (⟨S2x5020, .f32⟩ : BufTy).Contents (Elt F) → (⟨S2x5020, .f32⟩ : BufTy).Contents (Elt F) → (⟨S2x5020, .i1⟩ : BufTy).Contents (Elt F)),
    nullary main_cst_5 (constant S_ .f32 0x3F000000#32),
    unary main_cst_5 main_v61 (broadcastInDim S2x5020 ![] bcast_S_S2x5020 : (⟨S_, .f32⟩ : BufTy).Contents (Elt F) → (⟨S2x5020, .f32⟩ : BufTy).Contents (Elt F)),
    binary main_v57 main_v61 main_v62 (cmpf .olt : (⟨S2x5020, .f32⟩ : BufTy).Contents (Elt F) → (⟨S2x5020, .f32⟩ : BufTy).Contents (Elt F) → (⟨S2x5020, .i1⟩ : BufTy).Contents (Elt F)),
    nullary main_cst_6 (constant S_ .f32 0x00000000#32),
    unary main_cst_6 main_v63 (broadcastInDim S2x5020 ![] bcast_S_S2x5020 : (⟨S_, .f32⟩ : BufTy).Contents (Elt F) → (⟨S2x5020, .f32⟩ : BufTy).Contents (Elt F)),
    binary main_v57 main_v63 main_v64 (cmpf .oge : (⟨S2x5020, .f32⟩ : BufTy).Contents (Elt F) → (⟨S2x5020, .f32⟩ : BufTy).Contents (Elt F) → (⟨S2x5020, .i1⟩ : BufTy).Contents (Elt F)),
    binary main_v62 main_v64 main_v65 (andi : (⟨S2x5020, .i1⟩ : BufTy).Contents (Elt F) → (⟨S2x5020, .i1⟩ : BufTy).Contents (Elt F) → (⟨S2x5020, .i1⟩ : BufTy).Contents (Elt F)),
    nullary main_cst_7 (constant S_ .f32 0xFF800000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S2x5020, .f32⟩) main_call1_v1) (broadcastInDim S2x5020 ![] bcast_S_S2x5020),
    TRef.ternary (TRef.of (T := ⟨S2x5020, .i1⟩) main_v60) (TRef.of (T := ⟨S2x5020, .f32⟩) main_v57) (TRef.of (T := ⟨S2x5020, .f32⟩) main_call1_v1) (TRef.of (T := ⟨S2x5020, .f32⟩) main_v66) select,
    nullary main_cst_8 (constant S_ .f32 0xFF800000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S2x5020, .f32⟩) main_call2_v1) (broadcastInDim S2x5020 ![] bcast_S_S2x5020),
    TRef.ternary (TRef.of (T := ⟨S2x5020, .i1⟩) main_v65) (TRef.of (T := ⟨S2x5020, .f32⟩) main_v57) (TRef.of (T := ⟨S2x5020, .f32⟩) main_call2_v1) (TRef.of (T := ⟨S2x5020, .f32⟩) main_v67) select,
    unary main_v66 main_values ((fun x => (Host.topK S2x64 1 (FloatOps.cmpfTotal .gt) x sliceFits_S2x5020_S2x64).1) : (⟨S2x5020, .f32⟩ : BufTy).Contents (Elt F) → (⟨S2x64, .f32⟩ : BufTy).Contents (Elt F)),
    unary main_v66 main_indices ((fun x => (Host.topK S2x64 1 (FloatOps.cmpfTotal .gt) x sliceFits_S2x5020_S2x64).2) : (⟨S2x5020, .f32⟩ : BufTy).Contents (Elt F) → (⟨S2x64, .i32⟩ : BufTy).Contents (Elt F)),
    unary main_v67 main_values_9 ((fun x => (Host.topK S2x192 1 (FloatOps.cmpfTotal .gt) x sliceFits_S2x5020_S2x192).1) : (⟨S2x5020, .f32⟩ : BufTy).Contents (Elt F) → (⟨S2x192, .f32⟩ : BufTy).Contents (Elt F)),
    unary main_v67 main_indices_10 ((fun x => (Host.topK S2x192 1 (FloatOps.cmpfTotal .gt) x sliceFits_S2x5020_S2x192).2) : (⟨S2x5020, .f32⟩ : BufTy).Contents (Elt F) → (⟨S2x192, .i32⟩ : BufTy).Contents (Elt F)) ]

/-- @main's operations 91 … 120 of 211 (window `main_part1`). -/
abbrev ops_part1_1 : List (HloOp τ sig (Elt F)) :=
  [ binary main_indices main_indices_10 main_v68 (fn_main_v68 (F := F)),
    unary main_v68 main_v69 (broadcastInDim S2x256x1 ![0, 1] bcast_S2x256_S2x256x1_0_1 : (⟨S2x256, .i32⟩ : BufTy).Contents (Elt F) → (⟨S2x256x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S2x256x1, .i32⟩) main_call3_v0) (broadcastInDim S2x256x1 ![] bcast_S_S2x256x1),
    TRef.binary (TRef.of (T := ⟨S2x256x1, .i32⟩) main_v69) (TRef.of (T := ⟨S2x256x1, .i32⟩) main_call3_v0) (TRef.of (T := ⟨S2x256x1, .i1⟩) main_call3_v1) (cmpi .slt),
    TRef.nullary (TRef.of (T := ⟨S_, .i32⟩) main_call3_c_0) (constantI S_ 32 5020#32),
    TRef.unary (TRef.of (T := ⟨S_, .i32⟩) main_call3_c_0) (TRef.of (T := ⟨S2x256x1, .i32⟩) main_call3_v2) (broadcastInDim S2x256x1 ![] bcast_S_S2x256x1),
    TRef.binary (TRef.of (T := ⟨S2x256x1, .i32⟩) main_v69) (TRef.of (T := ⟨S2x256x1, .i32⟩) main_call3_v2) (TRef.of (T := ⟨S2x256x1, .i32⟩) main_call3_v3) addi,
    TRef.ternary (TRef.of (T := ⟨S2x256x1, .i1⟩) main_call3_v1) (TRef.of (T := ⟨S2x256x1, .i32⟩) main_call3_v3) (TRef.of (T := ⟨S2x256x1, .i32⟩) main_v69) (TRef.of (T := ⟨S2x256x1, .i32⟩) main_call3_v4) select,
    TRef.binary (TRef.of (T := ⟨S2x5020x4, .f32⟩) main_v4) (TRef.of (T := ⟨S2x256x1, .i32⟩) main_call3_v4) (TRef.of (T := ⟨S2x256x4, .f32⟩) main_v70) (fun x i => Host.gather gather_S2x5020x4_S2x256x1_S2x256x4_2_1_0_0_1_2_114 x i),
    unary main_v1 main_v71 (broadcastInDim S2x256x1 ![0, 1, 2] bcast_S2x1x1_S2x256x1_0_1_2 : (⟨S2x1x1, .f32⟩ : BufTy).Contents (Elt F) → (⟨S2x256x1, .f32⟩ : BufTy).Contents (Elt F)),
    binary main_v71 main_v70 main_v72 (fn_main_v72 (F := F)),
    TRef.nullary (TRef.of (T := ⟨S_, .i32⟩) main_call4_c) (constantI S_ 32 0#32),
    TRef.unary (TRef.of (T := ⟨S_, .i32⟩) main_call4_c) (TRef.of (T := ⟨S2x256, .i32⟩) main_call4_v0) (broadcastInDim S2x256 ![] bcast_S_S2x256),
    TRef.binary (TRef.of (T := ⟨S2x256, .i32⟩) main_v68) (TRef.of (T := ⟨S2x256, .i32⟩) main_call4_v0) (TRef.of (T := ⟨S2x256, .i1⟩) main_call4_v1) (cmpi .slt),
    TRef.nullary (TRef.of (T := ⟨S_, .i32⟩) main_call4_c_0) (constantI S_ 32 5020#32),
    TRef.unary (TRef.of (T := ⟨S_, .i32⟩) main_call4_c_0) (TRef.of (T := ⟨S2x256, .i32⟩) main_call4_v2) (broadcastInDim S2x256 ![] bcast_S_S2x256),
    TRef.binary (TRef.of (T := ⟨S2x256, .i32⟩) main_v68) (TRef.of (T := ⟨S2x256, .i32⟩) main_call4_v2) (TRef.of (T := ⟨S2x256, .i32⟩) main_call4_v3) addi,
    TRef.ternary (TRef.of (T := ⟨S2x256, .i1⟩) main_call4_v1) (TRef.of (T := ⟨S2x256, .i32⟩) main_call4_v3) (TRef.of (T := ⟨S2x256, .i32⟩) main_v68) (TRef.of (T := ⟨S2x256, .i32⟩) main_call4_v4) select,
    TRef.reshape (TRef.of (T := ⟨S2x256, .i32⟩) main_call4_v4) (TRef.of (T := ⟨S2x256x1, .i32⟩) main_call4_v5) (rfl : (.i32 : EltTy) = .i32) shapeCasts_S2x256_S2x256x1,
    TRef.binary (TRef.of (T := ⟨S2x5020, .i32⟩) main_v58) (TRef.of (T := ⟨S2x256x1, .i32⟩) main_call4_v5) (TRef.of (T := ⟨S2x256, .i32⟩) main_v73) (fun x i => Host.gather gather_S2x5020_S2x256x1_S2x256_n_1_0_0_1_2_11 x i),
    unary main_v73 main_v74 (broadcastInDim S2x256x1 ![0, 1] bcast_S2x256_S2x256x1_0_1 : (⟨S2x256, .i32⟩ : BufTy).Contents (Elt F) → (⟨S2x256x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S2x256x1, .i32⟩) main_call5_v0) (broadcastInDim S2x256x1 ![] bcast_S_S2x256x1),
    TRef.binary (TRef.of (T := ⟨S2x256x1, .i32⟩) main_v74) (TRef.of (T := ⟨S2x256x1, .i32⟩) main_call5_v0) (TRef.of (T := ⟨S2x256x1, .i1⟩) main_call5_v1) (cmpi .slt),
    TRef.nullary (TRef.of (T := ⟨S_, .i32⟩) main_call5_c_0) (constantI S_ 32 20#32),
    TRef.unary (TRef.of (T := ⟨S_, .i32⟩) main_call5_c_0) (TRef.of (T := ⟨S2x256x1, .i32⟩) main_call5_v2) (broadcastInDim S2x256x1 ![] bcast_S_S2x256x1),
    TRef.binary (TRef.of (T := ⟨S2x256x1, .i32⟩) main_v74) (TRef.of (T := ⟨S2x256x1, .i32⟩) main_call5_v2) (TRef.of (T := ⟨S2x256x1, .i32⟩) main_call5_v3) addi,
    TRef.ternary (TRef.of (T := ⟨S2x256x1, .i1⟩) main_call5_v1) (TRef.of (T := ⟨S2x256x1, .i32⟩) main_call5_v3) (TRef.of (T := ⟨S2x256x1, .i32⟩) main_v74) (TRef.of (T := ⟨S2x256x1, .i32⟩) main_call5_v4) select,
    TRef.binary (TRef.of (T := ⟨S2x20x5, .f32⟩) main_arg1) (TRef.of (T := ⟨S2x256x1, .i32⟩) main_call5_v4) (TRef.of (T := ⟨S2x256x5, .f32⟩) main_v75) (fun x i => Host.gather gather_S2x20x5_S2x256x1_S2x256x5_2_1_0_0_1_2_115 x i) ]

/-- @main's operations 121 … 150 of 211 (window `main_part1`). -/
abbrev ops_part1_2 : List (HloOp τ sig (Elt F)) :=
  [ unary main_v75 main_v76 ((extractStridedSlice S2x256x4 ![0, 0, 0] · slices_S2x256x5_S2x256x4_0_0_0) : (⟨S2x256x5, .f32⟩ : BufTy).Contents (Elt F) → (⟨S2x256x4, .f32⟩ : BufTy).Contents (Elt F)),
    unary main_v70 main_v77 ((extractStridedSlice S2x256x2 ![0, 0, 2] · slices_S2x256x4_S2x256x2_0_0_2) : (⟨S2x256x4, .f32⟩ : BufTy).Contents (Elt F) → (⟨S2x256x2, .f32⟩ : BufTy).Contents (Elt F)),
    unary main_v70 main_v78 ((extractStridedSlice S2x256x2 ![0, 0, 0] · slices_S2x256x4_S2x256x2_0_0_0) : (⟨S2x256x4, .f32⟩ : BufTy).Contents (Elt F) → (⟨S2x256x2, .f32⟩ : BufTy).Contents (Elt F)),
    binary main_v77 main_v78 main_v79 (subf : (⟨S2x256x2, .f32⟩ : BufTy).Contents (Elt F) → (⟨S2x256x2, .f32⟩ : BufTy).Contents (Elt F) → (⟨S2x256x2, .f32⟩ : BufTy).Contents (Elt F)),
    nullary main_cst_11 (constant S_ .f32 0x3F800000#32),
    unary main_cst_11 main_v80 (broadcastInDim S2x256x2 ![] bcast_S_S2x256x2 : (⟨S_, .f32⟩ : BufTy).Contents (Elt F) → (⟨S2x256x2, .f32⟩ : BufTy).Contents (Elt F)),
    binary main_v79 main_v80 main_v81 (addf : (⟨S2x256x2, .f32⟩ : BufTy).Contents (Elt F) → (⟨S2x256x2, .f32⟩ : BufTy).Contents (Elt F) → (⟨S2x256x2, .f32⟩ : BufTy).Contents (Elt F)),
    unary main_v76 main_v82 ((extractStridedSlice S2x256x2 ![0, 0, 2] · slices_S2x256x4_S2x256x2_0_0_2) : (⟨S2x256x4, .f32⟩ : BufTy).Contents (Elt F) → (⟨S2x256x2, .f32⟩ : BufTy).Contents (Elt F)),
    unary main_v76 main_v83 ((extractStridedSlice S2x256x2 ![0, 0, 0] · slices_S2x256x4_S2x256x2_0_0_0) : (⟨S2x256x4, .f32⟩ : BufTy).Contents (Elt F) → (⟨S2x256x2, .f32⟩ : BufTy).Contents (Elt F)),
    binary main_v82 main_v83 main_v84 (subf : (⟨S2x256x2, .f32⟩ : BufTy).Contents (Elt F) → (⟨S2x256x2, .f32⟩ : BufTy).Contents (Elt F) → (⟨S2x256x2, .f32⟩ : BufTy).Contents (Elt F)),
    nullary main_cst_12 (constant S_ .f32 0x3F800000#32),
    unary main_cst_12 main_v85 (broadcastInDim S2x256x2 ![] bcast_S_S2x256x2 : (⟨S_, .f32⟩ : BufTy).Contents (Elt F) → (⟨S2x256x2, .f32⟩ : BufTy).Contents (Elt F)),
    binary main_v84 main_v85 main_v86 (addf : (⟨S2x256x2, .f32⟩ : BufTy).Contents (Elt F) → (⟨S2x256x2, .f32⟩ : BufTy).Contents (Elt F) → (⟨S2x256x2, .f32⟩ : BufTy).Contents (Elt F)),
    unary main_v70 main_v87 ((extractStridedSlice S2x256x2 ![0, 0, 0] · slices_S2x256x4_S2x256x2_0_0_0) : (⟨S2x256x4, .f32⟩ : BufTy).Contents (Elt F) → (⟨S2x256x2, .f32⟩ : BufTy).Contents (Elt F)),
    nullary main_cst_13 (constant S_ .f32 0x3F000000#32),
    unary main_cst_13 main_v88 (broadcastInDim S2x256x2 ![] bcast_S_S2x256x2 : (⟨S_, .f32⟩ : BufTy).Contents (Elt F) → (⟨S2x256x2, .f32⟩ : BufTy).Contents (Elt F)),
    binary main_v88 main_v81 main_v89 (mulf : (⟨S2x256x2, .f32⟩ : BufTy).Contents (Elt F) → (⟨S2x256x2, .f32⟩ : BufTy).Contents (Elt F) → (⟨S2x256x2, .f32⟩ : BufTy).Contents (Elt F)),
    binary main_v87 main_v89 main_v90 (addf : (⟨S2x256x2, .f32⟩ : BufTy).Contents (Elt F) → (⟨S2x256x2, .f32⟩ : BufTy).Contents (Elt F) → (⟨S2x256x2, .f32⟩ : BufTy).Contents (Elt F)),
    unary main_v76 main_v91 ((extractStridedSlice S2x256x2 ![0, 0, 0] · slices_S2x256x4_S2x256x2_0_0_0) : (⟨S2x256x4, .f32⟩ : BufTy).Contents (Elt F) → (⟨S2x256x2, .f32⟩ : BufTy).Contents (Elt F)),
    nullary main_cst_14 (constant S_ .f32 0x3F000000#32),
    unary main_cst_14 main_v92 (broadcastInDim S2x256x2 ![] bcast_S_S2x256x2 : (⟨S_, .f32⟩ : BufTy).Contents (Elt F) → (⟨S2x256x2, .f32⟩ : BufTy).Contents (Elt F)),
    binary main_v92 main_v86 main_v93 (mulf : (⟨S2x256x2, .f32⟩ : BufTy).Contents (Elt F) → (⟨S2x256x2, .f32⟩ : BufTy).Contents (Elt F) → (⟨S2x256x2, .f32⟩ : BufTy).Contents (Elt F)),
    binary main_v91 main_v93 main_v94 (addf : (⟨S2x256x2, .f32⟩ : BufTy).Contents (Elt F) → (⟨S2x256x2, .f32⟩ : BufTy).Contents (Elt F) → (⟨S2x256x2, .f32⟩ : BufTy).Contents (Elt F)),
    binary main_v94 main_v90 main_v95 (subf : (⟨S2x256x2, .f32⟩ : BufTy).Contents (Elt F) → (⟨S2x256x2, .f32⟩ : BufTy).Contents (Elt F) → (⟨S2x256x2, .f32⟩ : BufTy).Contents (Elt F)),
    binary main_v95 main_v81 main_v96 (Host.divf : (⟨S2x256x2, .f32⟩ : BufTy).Contents (Elt F) → (⟨S2x256x2, .f32⟩ : BufTy).Contents (Elt F) → (⟨S2x256x2, .f32⟩ : BufTy).Contents (Elt F)),
    nullary main_cst_15 (constant S_ .f32 0x00000000#32),
    unary main_cst_15 main_v97 (broadcastInDim S2x256x2 ![] bcast_S_S2x256x2 : (⟨S_, .f32⟩ : BufTy).Contents (Elt F) → (⟨S2x256x2, .f32⟩ : BufTy).Contents (Elt F)),
    binary main_v96 main_v97 main_v98 (subf : (⟨S2x256x2, .f32⟩ : BufTy).Contents (Elt F) → (⟨S2x256x2, .f32⟩ : BufTy).Contents (Elt F) → (⟨S2x256x2, .f32⟩ : BufTy).Contents (Elt F)),
    nullary main_cst_16 (constant S_ .f32 0x3DCCCCCD#32),
    unary main_cst_16 main_v99 (broadcastInDim S2x256x2 ![] bcast_S_S2x256x2 : (⟨S_, .f32⟩ : BufTy).Contents (Elt F) → (⟨S2x256x2, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 151 … 180 of 211 (window `main_part2`). -/
abbrev ops_part2_0 : List (HloOp τ sig (Elt F)) :=
  [ binary main_v98 main_v99 main_v100 (Host.divf : (⟨S2x256x2, .f32⟩ : BufTy).Contents (Elt F) → (⟨S2x256x2, .f32⟩ : BufTy).Contents (Elt F) → (⟨S2x256x2, .f32⟩ : BufTy).Contents (Elt F)),
    binary main_v86 main_v81 main_v101 (Host.divf : (⟨S2x256x2, .f32⟩ : BufTy).Contents (Elt F) → (⟨S2x256x2, .f32⟩ : BufTy).Contents (Elt F) → (⟨S2x256x2, .f32⟩ : BufTy).Contents (Elt F)),
    unary main_v101 main_v102 (Host.log : (⟨S2x256x2, .f32⟩ : BufTy).Contents (Elt F) → (⟨S2x256x2, .f32⟩ : BufTy).Contents (Elt F)),
    nullary main_cst_17 (constant S_ .f32 0x00000000#32),
    unary main_cst_17 main_v103 (broadcastInDim S2x256x2 ![] bcast_S_S2x256x2 : (⟨S_, .f32⟩ : BufTy).Contents (Elt F) → (⟨S2x256x2, .f32⟩ : BufTy).Contents (Elt F)),
    binary main_v102 main_v103 main_v104 (subf : (⟨S2x256x2, .f32⟩ : BufTy).Contents (Elt F) → (⟨S2x256x2, .f32⟩ : BufTy).Contents (Elt F) → (⟨S2x256x2, .f32⟩ : BufTy).Contents (Elt F)),
    nullary main_cst_18 (constant S_ .f32 0x3E4CCCCD#32),
    unary main_cst_18 main_v105 (broadcastInDim S2x256x2 ![] bcast_S_S2x256x2 : (⟨S_, .f32⟩ : BufTy).Contents (Elt F) → (⟨S2x256x2, .f32⟩ : BufTy).Contents (Elt F)),
    binary main_v104 main_v105 main_v106 (Host.divf : (⟨S2x256x2, .f32⟩ : BufTy).Contents (Elt F) → (⟨S2x256x2, .f32⟩ : BufTy).Contents (Elt F) → (⟨S2x256x2, .f32⟩ : BufTy).Contents (Elt F)),
    binary main_v100 main_v106 main_v107 (fn_main_v107 (F := F)),
    nullary main_v108 (iotaInDim S256 32 0),
    nullary main_c (constantI S_ 32 64#32),
    unary main_c main_v109 (broadcastInDim S256 ![] bcast_S_S256 : (⟨S_, .i32⟩ : BufTy).Contents (Elt F) → (⟨S256, .i32⟩ : BufTy).Contents (Elt F)),
    binary main_v108 main_v109 main_v110 (cmpi .slt : (⟨S256, .i32⟩ : BufTy).Contents (Elt F) → (⟨S256, .i32⟩ : BufTy).Contents (Elt F) → (⟨S256, .i1⟩ : BufTy).Contents (Elt F)),
    unary main_v110 main_v111 (broadcastInDim S1x256 ![1] bcast_S256_S1x256_1 : (⟨S256, .i1⟩ : BufTy).Contents (Elt F) → (⟨S1x256, .i1⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S2x256, .i32⟩) main_call6_v0) (broadcastInDim S2x256 ![] bcast_S_S2x256),
    TRef.binary (TRef.of (T := ⟨S2x256, .i32⟩) main_v68) (TRef.of (T := ⟨S2x256, .i32⟩) main_call6_v0) (TRef.of (T := ⟨S2x256, .i1⟩) main_call6_v1) (cmpi .slt),
    TRef.nullary (TRef.of (T := ⟨S_, .i32⟩) main_call6_c_0) (constantI S_ 32 5020#32),
    TRef.unary (TRef.of (T := ⟨S_, .i32⟩) main_call6_c_0) (TRef.of (T := ⟨S2x256, .i32⟩) main_call6_v2) (broadcastInDim S2x256 ![] bcast_S_S2x256),
    TRef.binary (TRef.of (T := ⟨S2x256, .i32⟩) main_v68) (TRef.of (T := ⟨S2x256, .i32⟩) main_call6_v2) (TRef.of (T := ⟨S2x256, .i32⟩) main_call6_v3) addi,
    TRef.ternary (TRef.of (T := ⟨S2x256, .i1⟩) main_call6_v1) (TRef.of (T := ⟨S2x256, .i32⟩) main_call6_v3) (TRef.of (T := ⟨S2x256, .i32⟩) main_v68) (TRef.of (T := ⟨S2x256, .i32⟩) main_call6_v4) select,
    TRef.reshape (TRef.of (T := ⟨S2x256, .i32⟩) main_call6_v4) (TRef.of (T := ⟨S2x256x1, .i32⟩) main_call6_v5) (rfl : (.i32 : EltTy) = .i32) shapeCasts_S2x256_S2x256x1,
    TRef.binary (TRef.of (T := ⟨S2x5020, .i1⟩) main_v60) (TRef.of (T := ⟨S2x256x1, .i32⟩) main_call6_v5) (TRef.of (T := ⟨S2x256, .i1⟩) main_v112) (fun x i => Host.gather gather_S2x5020_S2x256x1_S2x256_n_1_0_0_1_2_11 x i),
    unary main_v111 main_v113 (broadcastInDim S2x256 ![0, 1] bcast_S1x256_S2x256_0_1 : (⟨S1x256, .i1⟩ : BufTy).Contents (Elt F) → (⟨S2x256, .i1⟩ : BufTy).Contents (Elt F)),
    binary main_v112 main_v113 main_v114 (andi : (⟨S2x256, .i1⟩ : BufTy).Contents (Elt F) → (⟨S2x256, .i1⟩ : BufTy).Contents (Elt F) → (⟨S2x256, .i1⟩ : BufTy).Contents (Elt F)),
    unary main_v75 main_v115 ((extractStridedSlice S2x256x1 ![0, 0, 4] · slices_S2x256x5_S2x256x1_0_0_4) : (⟨S2x256x5, .f32⟩ : BufTy).Contents (Elt F) → (⟨S2x256x1, .f32⟩ : BufTy).Contents (Elt F)),
    reshape main_v115 main_v116 (rfl : (.f32 : EltTy) = .f32) shapeCasts_S2x256x1_S2x256,
    nullary main_cst_19 (constant S_ .f32 0x00000000#32),
    TRef.unary (TRef.of (T := ⟨S_, .f32⟩) main_cst_19) (TRef.of (T := ⟨S_, .f32⟩) main_call7_v0) id ]

/-- @main's operations 181 … 210 of 211 (window `main_part2`). -/
abbrev ops_part2_1 : List (HloOp τ sig (Elt F)) :=
  [ TRef.unary (TRef.of (T := ⟨S_, .f32⟩) main_call7_v0) (TRef.of (T := ⟨S2x256, .f32⟩) main_call7_v1) (broadcastInDim S2x256 ![] bcast_S_S2x256),
    TRef.ternary (TRef.of (T := ⟨S2x256, .i1⟩) main_v114) (TRef.of (T := ⟨S2x256, .f32⟩) main_v116) (TRef.of (T := ⟨S2x256, .f32⟩) main_call7_v1) (TRef.of (T := ⟨S2x256, .f32⟩) main_v117) select,
    nullary main_cst_20 (constant S_ .f32 0x00000000#32),
    unary main_cst_20 main_v118 (broadcastInDim S2x256 ![] bcast_S_S2x256 : (⟨S_, .f32⟩ : BufTy).Contents (Elt F) → (⟨S2x256, .f32⟩ : BufTy).Contents (Elt F)),
    binary main_v117 main_v118 main_v119 (cmpf .ogt : (⟨S2x256, .f32⟩ : BufTy).Contents (Elt F) → (⟨S2x256, .f32⟩ : BufTy).Contents (Elt F) → (⟨S2x256, .i1⟩ : BufTy).Contents (Elt F)),
    unary main_v119 main_v120 (broadcastInDim S2x256x1 ![0, 1] bcast_S2x256_S2x256x1_0_1 : (⟨S2x256, .i1⟩ : BufTy).Contents (Elt F) → (⟨S2x256x1, .i1⟩ : BufTy).Contents (Elt F)),
    nullary main_cst_21 (constant S_ .f32 0x00000000#32),
    TRef.unary (TRef.of (T := ⟨S_, .f32⟩) main_cst_21) (TRef.of (T := ⟨S_, .f32⟩) main_call8_v0) id,
    TRef.unary (TRef.of (T := ⟨S2x256x1, .i1⟩) main_v120) (TRef.of (T := ⟨S2x256x4, .i1⟩) main_call8_v1) (broadcastInDim S2x256x4 ![0, 1, 2] bcast_S2x256x1_S2x256x4_0_1_2),
    TRef.unary (TRef.of (T := ⟨S_, .f32⟩) main_call8_v0) (TRef.of (T := ⟨S2x256x4, .f32⟩) main_call8_v2) (broadcastInDim S2x256x4 ![] bcast_S_S2x256x4),
    TRef.ternary (TRef.of (T := ⟨S2x256x4, .i1⟩) main_call8_v1) (TRef.of (T := ⟨S2x256x4, .f32⟩) main_v107) (TRef.of (T := ⟨S2x256x4, .f32⟩) main_call8_v2) (TRef.of (T := ⟨S2x256x4, .f32⟩) main_v121) select,
    nullary main_cst_22 (constant S_ .f32 0x3F800000#32),
    unary main_cst_22 main_v122 (broadcastInDim S4 ![] bcast_S_S4 : (⟨S_, .f32⟩ : BufTy).Contents (Elt F) → (⟨S4, .f32⟩ : BufTy).Contents (Elt F)),
    nullary main_cst_23 (constant S_ .f32 0x00000000#32),
    TRef.unary (TRef.of (T := ⟨S_, .f32⟩) main_cst_23) (TRef.of (T := ⟨S_, .f32⟩) main_call9_v0) id,
    TRef.unary (TRef.of (T := ⟨S2x256x1, .i1⟩) main_v120) (TRef.of (T := ⟨S2x256x4, .i1⟩) main_call9_v1) (broadcastInDim S2x256x4 ![0, 1, 2] bcast_S2x256x1_S2x256x4_0_1_2),
    TRef.unary (TRef.of (T := ⟨S4, .f32⟩) main_v122) (TRef.of (T := ⟨S2x256x4, .f32⟩) main_call9_v2) (broadcastInDim S2x256x4 ![2] bcast_S4_S2x256x4_2),
    TRef.unary (TRef.of (T := ⟨S_, .f32⟩) main_call9_v0) (TRef.of (T := ⟨S2x256x4, .f32⟩) main_call9_v3) (broadcastInDim S2x256x4 ![] bcast_S_S2x256x4),
    TRef.ternary (TRef.of (T := ⟨S2x256x4, .i1⟩) main_call9_v1) (TRef.of (T := ⟨S2x256x4, .f32⟩) main_call9_v2) (TRef.of (T := ⟨S2x256x4, .f32⟩) main_call9_v3) (TRef.of (T := ⟨S2x256x4, .f32⟩) main_v123) select,
    nullary main_cst_24 (constant S_ .f32 0x00000000#32),
    unary main_cst_24 main_v124 (broadcastInDim S2x256x4 ![] bcast_S_S2x256x4 : (⟨S_, .f32⟩ : BufTy).Contents (Elt F) → (⟨S2x256x4, .f32⟩ : BufTy).Contents (Elt F)),
    binary main_v123 main_v124 main_v125 (cmpf .ogt : (⟨S2x256x4, .f32⟩ : BufTy).Contents (Elt F) → (⟨S2x256x4, .f32⟩ : BufTy).Contents (Elt F) → (⟨S2x256x4, .i1⟩ : BufTy).Contents (Elt F)),
    unary main_v125 main_v126 (uitofp .f32 : (⟨S2x256x4, .i1⟩ : BufTy).Contents (Elt F) → (⟨S2x256x4, .f32⟩ : BufTy).Contents (Elt F)),
    nullary main_cst_25 (constant S_ .f32 0x00000000#32),
    unary main_cst_25 main_v127 (broadcastInDim S2x256x201 ![] bcast_S_S2x256x201 : (⟨S_, .f32⟩ : BufTy).Contents (Elt F) → (⟨S2x256x201, .f32⟩ : BufTy).Contents (Elt F)),
    nullary main_cst_26 (constant S_ .f32 0x00000000#32),
    unary main_cst_26 main_v128 (broadcastInDim S2x256x1 ![] bcast_S_S2x256x1 : (⟨S_, .f32⟩ : BufTy).Contents (Elt F) → (⟨S2x256x1, .f32⟩ : BufTy).Contents (Elt F)),
    nullary main_cst_27 (constant S_ .f32 0x00000000#32),
    unary main_cst_27 main_v129 (broadcastInDim S2x256x9 ![] bcast_S_S2x256x9 : (⟨S_, .f32⟩ : BufTy).Contents (Elt F) → (⟨S2x256x9, .f32⟩ : BufTy).Contents (Elt F)),
    nullary main_cst_28 (constant S_ .f32 0x00000000#32) ]

/-- @main's operations 211 … 211 of 211 (window `main_part2`). -/
abbrev ops_part2_2 : List (HloOp τ sig (Elt F)) :=
  [ unary main_cst_28 main_v130 (broadcastInDim S2x256x2 ![] bcast_S_S2x256x2 : (⟨S_, .f32⟩ : BufTy).Contents (Elt F) → (⟨S2x256x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's 211 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., reshape_bufs_sub .., unary_bufs_sub .., reshape_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., binary_bufs_sub .., unary_bufs_sub .., binary_bufs_sub .., nullary_bufs_sub .., unary_bufs_sub .., binary_bufs_sub .., nullary_bufs_sub .., unary_bufs_sub .., binary_bufs_sub .., ternary_bufs_sub .., reshape_bufs_sub .., binary_bufs_sub .., unary_bufs_sub .., nullary_bufs_sub .., unary_bufs_sub .., binary_bufs_sub .., nullary_bufs_sub .., unary_bufs_sub .., binary_bufs_sub .., ternary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., binary_bufs_sub .., unary_bufs_sub .., nullary_bufs_sub .., unary_bufs_sub .., binary_bufs_sub .., nullary_bufs_sub .., unary_bufs_sub .., binary_bufs_sub .., binary_bufs_sub .., nullary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., binary_bufs_sub .., unary_bufs_sub .., binary_bufs_sub .., unary_bufs_sub .., reshape_bufs_sub .., nullary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., ternary_bufs_sub .., nullary_bufs_sub .., unary_bufs_sub .., binary_bufs_sub .., unary_bufs_sub .., nullary_bufs_sub .., unary_bufs_sub .., unary_bufs_sub .., unary_bufs_sub .., ternary_bufs_sub .., nullary_bufs_sub .., unary_bufs_sub .., nullary_bufs_sub .., unary_bufs_sub .., unary_bufs_sub .., unary_bufs_sub .., unary_bufs_sub .., ternary_bufs_sub .., nullary_bufs_sub .., unary_bufs_sub .., binary_bufs_sub .., unary_bufs_sub .., nullary_bufs_sub .., unary_bufs_sub .., nullary_bufs_sub .., unary_bufs_sub .., nullary_bufs_sub .., unary_bufs_sub .., nullary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  unary_bufs_sub ..
set_option maxRecDepth 8192 in
theorem ops_part2_2_fresh : (ops_part2_2 : List (HloOp τ sig (Elt F))).Forall fun op => op.fresh = ∅ :=
  rfl
theorem ops_sub : (ops : List (HloOp τ sig (Elt F))).Forall fun op => op.bufs ⊆ tcRefs τ sig :=
  List.forall_iff_forall_mem.mpr fun op h => by
    simp only [ops, ops_part1, ops_part2, List.mem_append, or_assoc] at h
    rcases h with h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h]
theorem ops_fresh : ∀ op ∈ (ops : List (HloOp τ sig (Elt F))), op.fresh = ∅ := fun op h => by
    simp only [ops, ops_part1, ops_part2, List.mem_append, or_assoc] at h
    rcases h with h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h]

set_option maxRecDepth 8192 in
/-- `main_v4`'s composed term of the arguments (named: it is used 5 times). -/
def res_main_v4 (V0 : Valuation τ sig (Elt F)) : (Proc.devRef .tc main_v4 : DevRef τ sig).ty.Contents (Elt F) :=
  concatenate S2x5020x4 1 [⟨S2x5000x4, (extractStridedSlice S2x5000x4 ![0, 0, 1] (V0 (Proc.devRef .tc main_arg0)) slices_S2x5000x5_S2x5000x4_0_0_1)⟩, ⟨S2x20x4, (extractStridedSlice S2x20x4 ![0, 0, 0] (V0 (Proc.devRef .tc main_arg1)) slices_S2x20x5_S2x20x4_0_0_0)⟩] concatenates_S2x5000x4_S2x20x4_S2x5020x4_d1

set_option maxRecDepth 8192 in
/-- `main_v5`'s composed term of the arguments (named: it is used 4 times). -/
def res_main_v5 (V0 : Valuation τ sig (Elt F)) : (Proc.devRef .tc main_v5 : DevRef τ sig).ty.Contents (Elt F) :=
  extractStridedSlice S2x20x4 ![0, 0, 0] (V0 (Proc.devRef .tc main_arg1)) slices_S2x20x5_S2x20x4_0_0_0

set_option maxRecDepth 8192 in
/-- `main_v8`'s composed term of the arguments (named: it is long). -/
def res_main_v8 (V0 : Valuation τ sig (Elt F)) : (Proc.devRef .tc main_v8 : DevRef τ sig).ty.Contents (Elt F) :=
  subf (extractStridedSlice S2x5020x2 ![0, 0, 2] (res_main_v4 V0) slices_S2x5020x4_S2x5020x2_0_0_2) (extractStridedSlice S2x5020x2 ![0, 0, 0] (res_main_v4 V0) slices_S2x5020x4_S2x5020x2_0_0_0)

set_option maxRecDepth 8192 in
/-- `main_v10`'s composed term of the arguments (named: it is used 2 times). -/
def res_main_v10 (V0 : Valuation τ sig (Elt F)) : (Proc.devRef .tc main_v10 : DevRef τ sig).ty.Contents (Elt F) :=
  addf (res_main_v8 V0) (broadcastInDim S2x5020x2 ![] bcast_S_S2x5020x2 (constant S_ .f32 0x3F800000#32))

set_option maxRecDepth 8192 in
/-- `main_v13`'s composed term of the arguments (named: it is long). -/
def res_main_v13 (V0 : Valuation τ sig (Elt F)) : (Proc.devRef .tc main_v13 : DevRef τ sig).ty.Contents (Elt F) :=
  subf (extractStridedSlice S2x20x2 ![0, 0, 2] (res_main_v5 V0) slices_S2x20x4_S2x20x2_0_0_2) (extractStridedSlice S2x20x2 ![0, 0, 0] (res_main_v5 V0) slices_S2x20x4_S2x20x2_0_0_0)

set_option maxRecDepth 8192 in
/-- `main_v15`'s composed term of the arguments (named: it is used 2 times). -/
def res_main_v15 (V0 : Valuation τ sig (Elt F)) : (Proc.devRef .tc main_v15 : DevRef τ sig).ty.Contents (Elt F) :=
  addf (res_main_v13 V0) (broadcastInDim S2x20x2 ![] bcast_S_S2x20x2 (constant S_ .f32 0x3F800000#32))

set_option maxRecDepth 8192 in
/-- `main_v20`'s composed term of the arguments (named: it is long). -/
def res_main_v20 (V0 : Valuation τ sig (Elt F)) : (Proc.devRef .tc main_v20 : DevRef τ sig).ty.Contents (Elt F) :=
  mulf (shapeCast _ (extractStridedSlice S2x5020x1 ![0, 0, 0] (res_main_v10 V0) slices_S2x5020x2_S2x5020x1_0_0_0) shapeCasts_S2x5020x1_S2x5020) (shapeCast _ (extractStridedSlice S2x5020x1 ![0, 0, 1] (res_main_v10 V0) slices_S2x5020x2_S2x5020x1_0_0_1) shapeCasts_S2x5020x1_S2x5020)

set_option maxRecDepth 8192 in
/-- `main_v26`'s composed term of the arguments (named: it is long). -/
def res_main_v26 (V0 : Valuation τ sig (Elt F)) : (Proc.devRef .tc main_v26 : DevRef τ sig).ty.Contents (Elt F) :=
  mulf (shapeCast _ (extractStridedSlice S2x20x1 ![0, 0, 0] (res_main_v15 V0) slices_S2x20x2_S2x20x1_0_0_0) shapeCasts_S2x20x1_S2x20) (shapeCast _ (extractStridedSlice S2x20x1 ![0, 0, 1] (res_main_v15 V0) slices_S2x20x2_S2x20x1_0_0_1) shapeCasts_S2x20x1_S2x20)

set_option maxRecDepth 8192 in
/-- `main_v29`'s composed term of the arguments (named: it is long). -/
def res_main_v29 (V0 : Valuation τ sig (Elt F)) : (Proc.devRef .tc main_v29 : DevRef τ sig).ty.Contents (Elt F) :=
  broadcastInDim S2x5020x1x2 ![0, 1, 3] bcast_S2x5020x2_S2x5020x1x2_0_1_3 (extractStridedSlice S2x5020x2 ![0, 0, 0] (res_main_v4 V0) slices_S2x5020x4_S2x5020x2_0_0_0)

set_option maxRecDepth 8192 in
/-- `main_v33`'s composed term of the arguments (named: it is long). -/
def res_main_v33 (V0 : Valuation τ sig (Elt F)) : (Proc.devRef .tc main_v33 : DevRef τ sig).ty.Contents (Elt F) :=
  broadcastInDim S2x5020x20x2 ![0, 1, 2, 3] bcast_S2x1x20x2_S2x5020x20x2_0_1_2_3 (broadcastInDim S2x1x20x2 ![0, 2, 3] bcast_S2x20x2_S2x1x20x2_0_2_3 (extractStridedSlice S2x20x2 ![0, 0, 0] (res_main_v5 V0) slices_S2x20x4_S2x20x2_0_0_0))

set_option maxRecDepth 8192 in
/-- `main_v36`'s composed term of the arguments (named: it is long). -/
def res_main_v36 (V0 : Valuation τ sig (Elt F)) : (Proc.devRef .tc main_v36 : DevRef τ sig).ty.Contents (Elt F) :=
  broadcastInDim S2x5020x1x2 ![0, 1, 3] bcast_S2x5020x2_S2x5020x1x2_0_1_3 (extractStridedSlice S2x5020x2 ![0, 0, 2] (res_main_v4 V0) slices_S2x5020x4_S2x5020x2_0_0_2)

set_option maxRecDepth 8192 in
/-- `main_v40`'s composed term of the arguments (named: it is long). -/
def res_main_v40 (V0 : Valuation τ sig (Elt F)) : (Proc.devRef .tc main_v40 : DevRef τ sig).ty.Contents (Elt F) :=
  broadcastInDim S2x5020x20x2 ![0, 1, 2, 3] bcast_S2x1x20x2_S2x5020x20x2_0_1_2_3 (broadcastInDim S2x1x20x2 ![0, 2, 3] bcast_S2x20x2_S2x1x20x2_0_2_3 (extractStridedSlice S2x20x2 ![0, 0, 2] (res_main_v5 V0) slices_S2x20x4_S2x20x2_0_0_2))

set_option maxRecDepth 8192 in
/-- `main_v42`'s composed term of the arguments (named: it is long). -/
def res_main_v42 (V0 : Valuation τ sig (Elt F)) : (Proc.devRef .tc main_v42 : DevRef τ sig).ty.Contents (Elt F) :=
  subf (minimumf (broadcastInDim S2x5020x20x2 ![0, 1, 2, 3] bcast_S2x5020x1x2_S2x5020x20x2_0_1_2_3 (res_main_v36 V0)) (res_main_v40 V0)) (maximumf (broadcastInDim S2x5020x20x2 ![0, 1, 2, 3] bcast_S2x5020x1x2_S2x5020x20x2_0_1_2_3 (res_main_v29 V0)) (res_main_v33 V0))

set_option maxRecDepth 8192 in
/-- `main_v46`'s composed term of the arguments (named: it is used 2 times). -/
def res_main_v46 (V0 : Valuation τ sig (Elt F)) : (Proc.devRef .tc main_v46 : DevRef τ sig).ty.Contents (Elt F) :=
  maximumf (addf (res_main_v42 V0) (broadcastInDim S2x5020x20x2 ![] bcast_S_S2x5020x20x2 (constant S_ .f32 0x3F800000#32))) (broadcastInDim S2x5020x20x2 ![] bcast_S_S2x5020x20x2 (constant S_ .f32 0x00000000#32))

set_option maxRecDepth 8192 in
/-- `main_v51`'s composed term of the arguments (named: it is used 2 times). -/
def res_main_v51 (V0 : Valuation τ sig (Elt F)) : (Proc.devRef .tc main_v51 : DevRef τ sig).ty.Contents (Elt F) :=
  mulf (shapeCast _ (extractStridedSlice S2x5020x20x1 ![0, 0, 0, 0] (res_main_v46 V0) slices_S2x5020x20x2_S2x5020x20x1_0_0_0_0) shapeCasts_S2x5020x20x1_S2x5020x20) (shapeCast _ (extractStridedSlice S2x5020x20x1 ![0, 0, 0, 1] (res_main_v46 V0) slices_S2x5020x20x2_S2x5020x20x1_0_0_0_1) shapeCasts_S2x5020x20x1_S2x5020x20)

set_option maxRecDepth 8192 in
/-- `main_v54`'s composed term of the arguments (named: it is long). -/
def res_main_v54 (V0 : Valuation τ sig (Elt F)) : (Proc.devRef .tc main_v54 : DevRef τ sig).ty.Contents (Elt F) :=
  addf (broadcastInDim S2x5020x20 ![0, 1, 2] bcast_S2x5020x1_S2x5020x20_0_1_2 (broadcastInDim S2x5020x1 ![0, 1] bcast_S2x5020_S2x5020x1_0_1 (res_main_v20 V0))) (broadcastInDim S2x5020x20 ![0, 1, 2] bcast_S2x1x20_S2x5020x20_0_1_2 (broadcastInDim S2x1x20 ![0, 2] bcast_S2x20_S2x1x20_0_2 (res_main_v26 V0)))

set_option maxRecDepth 8192 in
/-- `main_v56`'s composed term of the arguments (named: it is used 3 times). -/
def res_main_v56 (V0 : Valuation τ sig (Elt F)) : (Proc.devRef .tc main_v56 : DevRef τ sig).ty.Contents (Elt F) :=
  Host.divf (res_main_v51 V0) (subf (res_main_v54 V0) (res_main_v51 V0))

set_option maxRecDepth 8192 in
/-- `main_v57`'s composed term of the arguments (named: it is used 5 times). -/
def res_main_v57 (V0 : Valuation τ sig (Elt F)) : (Proc.devRef .tc main_v57 : DevRef τ sig).ty.Contents (Elt F) :=
  Host.reduce FloatOps.maximumf (res_main_v56 V0) (constant S_ .f32 0xFF800000#32) reducesTo_S2x5020x20_S2x5020_d2 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S2x5020x20 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_call0_v1_0`'s composed term of the arguments (named: it is long). -/
def res_main_call0_v1_0 (V0 : Valuation τ sig (Elt F)) : (Proc.devRef .tc main_call0_v1_0 : DevRef τ sig).ty.Contents (Elt F) :=
  (fun j => (Host.argReduce reducer_argmax_f32_i32 (res_main_v56 V0) (res_main_call0_v0 V0) (res_main_call0_cst V0) (res_main_call0_c V0) reducesTo_S2x5020x20_S2x5020_d2 h_S_ j).1)

set_option maxRecDepth 8192 in
/-- `main_v58`'s composed term of the arguments (named: it is long). -/
def res_main_v58 (V0 : Valuation τ sig (Elt F)) : (Proc.devRef .tc main_v58 : DevRef τ sig).ty.Contents (Elt F) :=
  (fun j => (Host.argReduce reducer_argmax_f32_i32 (res_main_v56 V0) (res_main_call0_v0 V0) (res_main_call0_cst V0) (res_main_call0_c V0) reducesTo_S2x5020x20_S2x5020_d2 h_S_ j).2)

set_option maxRecDepth 8192 in
/-- `main_v60`'s composed term of the arguments (named: it is used 2 times). -/
def res_main_v60 (V0 : Valuation τ sig (Elt F)) : (Proc.devRef .tc main_v60 : DevRef τ sig).ty.Contents (Elt F) :=
  cmpf .oge (res_main_v57 V0) (broadcastInDim S2x5020 ![] bcast_S_S2x5020 (constant S_ .f32 0x3F000000#32))

set_option maxRecDepth 8192 in
/-- `main_v65`'s composed term of the arguments (named: it is long). -/
def res_main_v65 (V0 : Valuation τ sig (Elt F)) : (Proc.devRef .tc main_v65 : DevRef τ sig).ty.Contents (Elt F) :=
  andi (cmpf .olt (res_main_v57 V0) (broadcastInDim S2x5020 ![] bcast_S_S2x5020 (constant S_ .f32 0x3F000000#32))) (cmpf .oge (res_main_v57 V0) (broadcastInDim S2x5020 ![] bcast_S_S2x5020 (constant S_ .f32 0x00000000#32)))

set_option maxRecDepth 8192 in
/-- `main_v66`'s composed term of the arguments (named: it is used 2 times). -/
def res_main_v66 (V0 : Valuation τ sig (Elt F)) : (Proc.devRef .tc main_v66 : DevRef τ sig).ty.Contents (Elt F) :=
  select (res_main_v60 V0) (res_main_v57 V0) (broadcastInDim S2x5020 ![] bcast_S_S2x5020 (id (constant S_ .f32 0xFF800000#32)))

set_option maxRecDepth 8192 in
/-- `main_v67`'s composed term of the arguments (named: it is used 2 times). -/
def res_main_v67 (V0 : Valuation τ sig (Elt F)) : (Proc.devRef .tc main_v67 : DevRef τ sig).ty.Contents (Elt F) :=
  select (res_main_v65 V0) (res_main_v57 V0) (broadcastInDim S2x5020 ![] bcast_S_S2x5020 (id (constant S_ .f32 0xFF800000#32)))

set_option maxRecDepth 8192 in
/-- `main_v68`'s composed term of the arguments (named: it is used 7 times). -/
def res_main_v68 (V0 : Valuation τ sig (Elt F)) : (Proc.devRef .tc main_v68 : DevRef τ sig).ty.Contents (Elt F) :=
  concatenate S2x256 1 [⟨S2x64, ((Host.topK S2x64 1 (FloatOps.cmpfTotal .gt) (res_main_v66 V0) sliceFits_S2x5020_S2x64).2)⟩, ⟨S2x192, ((Host.topK S2x192 1 (FloatOps.cmpfTotal .gt) (res_main_v67 V0) sliceFits_S2x5020_S2x192).2)⟩] concatenates_S2x64_S2x192_S2x256_d1

set_option maxRecDepth 8192 in
/-- `main_v69`'s composed term of the arguments (named: it is used 3 times). -/
def res_main_v69 (V0 : Valuation τ sig (Elt F)) : (Proc.devRef .tc main_v69 : DevRef τ sig).ty.Contents (Elt F) :=
  broadcastInDim S2x256x1 ![0, 1] bcast_S2x256_S2x256x1_0_1 (res_main_v68 V0)

set_option maxRecDepth 8192 in
/-- `main_call3_v4`'s composed term of the arguments (named: it is long). -/
def res_main_call3_v4 (V0 : Valuation τ sig (Elt F)) : (Proc.devRef .tc main_call3_v4 : DevRef τ sig).ty.Contents (Elt F) :=
  select (cmpi .slt (res_main_v69 V0) (broadcastInDim S2x256x1 ![] bcast_S_S2x256x1 (constantI S_ 32 0#32))) (addi (res_main_v69 V0) (broadcastInDim S2x256x1 ![] bcast_S_S2x256x1 (constantI S_ 32 5020#32))) (res_main_v69 V0)

set_option maxRecDepth 8192 in
/-- `main_v70`'s composed term of the arguments (named: it is used 4 times). -/
def res_main_v70 (V0 : Valuation τ sig (Elt F)) : (Proc.devRef .tc main_v70 : DevRef τ sig).ty.Contents (Elt F) :=
  Host.gather gather_S2x5020x4_S2x256x1_S2x256x4_2_1_0_0_1_2_114 (res_main_v4 V0) (res_main_call3_v4 V0)

set_option maxRecDepth 8192 in
/-- `main_call4_v4`'s composed term of the arguments (named: it is long). -/
def res_main_call4_v4 (V0 : Valuation τ sig (Elt F)) : (Proc.devRef .tc main_call4_v4 : DevRef τ sig).ty.Contents (Elt F) :=
  select (cmpi .slt (res_main_v68 V0) (broadcastInDim S2x256 ![] bcast_S_S2x256 (constantI S_ 32 0#32))) (addi (res_main_v68 V0) (broadcastInDim S2x256 ![] bcast_S_S2x256 (constantI S_ 32 5020#32))) (res_main_v68 V0)

set_option maxRecDepth 8192 in
/-- `main_v74`'s composed term of the arguments (named: it is used 3 times). -/
def res_main_v74 (V0 : Valuation τ sig (Elt F)) : (Proc.devRef .tc main_v74 : DevRef τ sig).ty.Contents (Elt F) :=
  broadcastInDim S2x256x1 ![0, 1] bcast_S2x256_S2x256x1_0_1 (Host.gather gather_S2x5020_S2x256x1_S2x256_n_1_0_0_1_2_11 (res_main_v58 V0) (shapeCast _ (res_main_call4_v4 V0) shapeCasts_S2x256_S2x256x1))

set_option maxRecDepth 8192 in
/-- `main_call5_v4`'s composed term of the arguments (named: it is long). -/
def res_main_call5_v4 (V0 : Valuation τ sig (Elt F)) : (Proc.devRef .tc main_call5_v4 : DevRef τ sig).ty.Contents (Elt F) :=
  select (cmpi .slt (res_main_v74 V0) (broadcastInDim S2x256x1 ![] bcast_S_S2x256x1 (constantI S_ 32 0#32))) (addi (res_main_v74 V0) (broadcastInDim S2x256x1 ![] bcast_S_S2x256x1 (constantI S_ 32 20#32))) (res_main_v74 V0)

set_option maxRecDepth 8192 in
/-- `main_v75`'s composed term of the arguments (named: it is used 2 times). -/
def res_main_v75 (V0 : Valuation τ sig (Elt F)) : (Proc.devRef .tc main_v75 : DevRef τ sig).ty.Contents (Elt F) :=
  Host.gather gather_S2x20x5_S2x256x1_S2x256x5_2_1_0_0_1_2_115 (V0 (Proc.devRef .tc main_arg1)) (res_main_call5_v4 V0)

set_option maxRecDepth 8192 in
/-- `main_v76`'s composed term of the arguments (named: it is used 3 times). -/
def res_main_v76 (V0 : Valuation τ sig (Elt F)) : (Proc.devRef .tc main_v76 : DevRef τ sig).ty.Contents (Elt F) :=
  extractStridedSlice S2x256x4 ![0, 0, 0] (res_main_v75 V0) slices_S2x256x5_S2x256x4_0_0_0

set_option maxRecDepth 8192 in
/-- `main_v79`'s composed term of the arguments (named: it is long). -/
def res_main_v79 (V0 : Valuation τ sig (Elt F)) : (Proc.devRef .tc main_v79 : DevRef τ sig).ty.Contents (Elt F) :=
  subf (extractStridedSlice S2x256x2 ![0, 0, 2] (res_main_v70 V0) slices_S2x256x4_S2x256x2_0_0_2) (extractStridedSlice S2x256x2 ![0, 0, 0] (res_main_v70 V0) slices_S2x256x4_S2x256x2_0_0_0)

set_option maxRecDepth 8192 in
/-- `main_v81`'s composed term of the arguments (named: it is used 3 times). -/
def res_main_v81 (V0 : Valuation τ sig (Elt F)) : (Proc.devRef .tc main_v81 : DevRef τ sig).ty.Contents (Elt F) :=
  addf (res_main_v79 V0) (broadcastInDim S2x256x2 ![] bcast_S_S2x256x2 (constant S_ .f32 0x3F800000#32))

set_option maxRecDepth 8192 in
/-- `main_v84`'s composed term of the arguments (named: it is long). -/
def res_main_v84 (V0 : Valuation τ sig (Elt F)) : (Proc.devRef .tc main_v84 : DevRef τ sig).ty.Contents (Elt F) :=
  subf (extractStridedSlice S2x256x2 ![0, 0, 2] (res_main_v76 V0) slices_S2x256x4_S2x256x2_0_0_2) (extractStridedSlice S2x256x2 ![0, 0, 0] (res_main_v76 V0) slices_S2x256x4_S2x256x2_0_0_0)

set_option maxRecDepth 8192 in
/-- `main_v86`'s composed term of the arguments (named: it is used 2 times). -/
def res_main_v86 (V0 : Valuation τ sig (Elt F)) : (Proc.devRef .tc main_v86 : DevRef τ sig).ty.Contents (Elt F) :=
  addf (res_main_v84 V0) (broadcastInDim S2x256x2 ![] bcast_S_S2x256x2 (constant S_ .f32 0x3F800000#32))

set_option maxRecDepth 8192 in
/-- `main_v90`'s composed term of the arguments (named: it is long). -/
def res_main_v90 (V0 : Valuation τ sig (Elt F)) : (Proc.devRef .tc main_v90 : DevRef τ sig).ty.Contents (Elt F) :=
  addf (extractStridedSlice S2x256x2 ![0, 0, 0] (res_main_v70 V0) slices_S2x256x4_S2x256x2_0_0_0) (mulf (broadcastInDim S2x256x2 ![] bcast_S_S2x256x2 (constant S_ .f32 0x3F000000#32)) (res_main_v81 V0))

set_option maxRecDepth 8192 in
/-- `main_v94`'s composed term of the arguments (named: it is long). -/
def res_main_v94 (V0 : Valuation τ sig (Elt F)) : (Proc.devRef .tc main_v94 : DevRef τ sig).ty.Contents (Elt F) :=
  addf (extractStridedSlice S2x256x2 ![0, 0, 0] (res_main_v76 V0) slices_S2x256x4_S2x256x2_0_0_0) (mulf (broadcastInDim S2x256x2 ![] bcast_S_S2x256x2 (constant S_ .f32 0x3F000000#32)) (res_main_v86 V0))

set_option maxRecDepth 8192 in
/-- `main_v100`'s composed term of the arguments (named: it is long). -/
def res_main_v100 (V0 : Valuation τ sig (Elt F)) : (Proc.devRef .tc main_v100 : DevRef τ sig).ty.Contents (Elt F) :=
  Host.divf (subf (Host.divf (subf (res_main_v94 V0) (res_main_v90 V0)) (res_main_v81 V0)) (broadcastInDim S2x256x2 ![] bcast_S_S2x256x2 (constant S_ .f32 0x00000000#32))) (broadcastInDim S2x256x2 ![] bcast_S_S2x256x2 (constant S_ .f32 0x3DCCCCCD#32))

set_option maxRecDepth 8192 in
/-- `main_v106`'s composed term of the arguments (named: it is long). -/
def res_main_v106 (V0 : Valuation τ sig (Elt F)) : (Proc.devRef .tc main_v106 : DevRef τ sig).ty.Contents (Elt F) :=
  Host.divf (subf (Host.log (Host.divf (res_main_v86 V0) (res_main_v81 V0))) (broadcastInDim S2x256x2 ![] bcast_S_S2x256x2 (constant S_ .f32 0x00000000#32))) (broadcastInDim S2x256x2 ![] bcast_S_S2x256x2 (constant S_ .f32 0x3E4CCCCD#32))

set_option maxRecDepth 8192 in
/-- `main_call6_v4`'s composed term of the arguments (named: it is long). -/
def res_main_call6_v4 (V0 : Valuation τ sig (Elt F)) : (Proc.devRef .tc main_call6_v4 : DevRef τ sig).ty.Contents (Elt F) :=
  select (cmpi .slt (res_main_v68 V0) (broadcastInDim S2x256 ![] bcast_S_S2x256 (constantI S_ 32 0#32))) (addi (res_main_v68 V0) (broadcastInDim S2x256 ![] bcast_S_S2x256 (constantI S_ 32 5020#32))) (res_main_v68 V0)

set_option maxRecDepth 8192 in
/-- `main_v113`'s composed term of the arguments (named: it is long). -/
def res_main_v113 (V0 : Valuation τ sig (Elt F)) : (Proc.devRef .tc main_v113 : DevRef τ sig).ty.Contents (Elt F) :=
  broadcastInDim S2x256 ![0, 1] bcast_S1x256_S2x256_0_1 (broadcastInDim S1x256 ![1] bcast_S256_S1x256_1 (cmpi .slt (iotaInDim S256 32 0) (broadcastInDim S256 ![] bcast_S_S256 (constantI S_ 32 64#32))))

set_option maxRecDepth 8192 in
/-- `main_v114`'s composed term of the arguments (named: it is long). -/
def res_main_v114 (V0 : Valuation τ sig (Elt F)) : (Proc.devRef .tc main_v114 : DevRef τ sig).ty.Contents (Elt F) :=
  andi (Host.gather gather_S2x5020_S2x256x1_S2x256_n_1_0_0_1_2_11 (res_main_v60 V0) (shapeCast _ (res_main_call6_v4 V0) shapeCasts_S2x256_S2x256x1)) (res_main_v113 V0)

set_option maxRecDepth 8192 in
/-- `main_v119`'s composed term of the arguments (named: it is long). -/
def res_main_v119 (V0 : Valuation τ sig (Elt F)) : (Proc.devRef .tc main_v119 : DevRef τ sig).ty.Contents (Elt F) :=
  cmpf .ogt (select (res_main_v114 V0) (shapeCast _ (extractStridedSlice S2x256x1 ![0, 0, 4] (res_main_v75 V0) slices_S2x256x5_S2x256x1_0_0_4) shapeCasts_S2x256x1_S2x256) (broadcastInDim S2x256 ![] bcast_S_S2x256 (id (constant S_ .f32 0x00000000#32)))) (broadcastInDim S2x256 ![] bcast_S_S2x256 (constant S_ .f32 0x00000000#32))

set_option maxRecDepth 8192 in
/-- `main_v120`'s composed term of the arguments (named: it is used 2 times). -/
def res_main_v120 (V0 : Valuation τ sig (Elt F)) : (Proc.devRef .tc main_v120 : DevRef τ sig).ty.Contents (Elt F) :=
  broadcastInDim S2x256x1 ![0, 1] bcast_S2x256_S2x256x1_0_1 (res_main_v119 V0)

set_option maxRecDepth 8192 in
/-- `main_v125`'s composed term of the arguments (named: it is long). -/
def res_main_v125 (V0 : Valuation τ sig (Elt F)) : (Proc.devRef .tc main_v125 : DevRef τ sig).ty.Contents (Elt F) :=
  cmpf .ogt (select (broadcastInDim S2x256x4 ![0, 1, 2] bcast_S2x256x1_S2x256x4_0_1_2 (res_main_v120 V0)) (broadcastInDim S2x256x4 ![2] bcast_S4_S2x256x4_2 (broadcastInDim S4 ![] bcast_S_S4 (constant S_ .f32 0x3F800000#32))) (broadcastInDim S2x256x4 ![] bcast_S_S2x256x4 (id (constant S_ .f32 0x00000000#32))) : (⟨S2x256x4, .f32⟩ : BufTy).Contents (Elt F)) (broadcastInDim S2x256x4 ![] bcast_S_S2x256x4 (constant S_ .f32 0x00000000#32))

set_option maxRecDepth 8192 in
/-- `main_v123`'s composed term of the arguments (named: it is long). -/
def res_main_v123 (V0 : Valuation τ sig (Elt F)) : (Proc.devRef .tc main_v123 : DevRef τ sig).ty.Contents (Elt F) :=
  select (broadcastInDim S2x256x4 ![0, 1, 2] bcast_S2x256x1_S2x256x4_0_1_2 (res_main_v120 V0)) (broadcastInDim S2x256x4 ![2] bcast_S4_S2x256x4_2 (broadcastInDim S4 ![] bcast_S_S4 (constant S_ .f32 0x3F800000#32))) (broadcastInDim S2x256x4 ![] bcast_S_S2x256x4 (id (constant S_ .f32 0x00000000#32)))

/-- `res_main_v123` by its position among the values @main returns, 7 counting from 0: the name for hand proofs to cite, since
    a re-print renumbers `main_v123`. An abbreviation: it unfolds to the `res_main_v123` that `run` states. -/
abbrev res_out7 (V0 : Valuation τ sig (Elt F)) : (Proc.devRef .tc main_v123 : DevRef τ sig).ty.Contents (Elt F) := res_main_v123 V0

set_option maxRecDepth 8192 in
/-- `main_v121`'s composed term of the arguments (named: it is long). -/
def res_main_v121 (V0 : Valuation τ sig (Elt F)) : (Proc.devRef .tc main_v121 : DevRef τ sig).ty.Contents (Elt F) :=
  select (broadcastInDim S2x256x4 ![0, 1, 2] bcast_S2x256x1_S2x256x4_0_1_2 (res_main_v120 V0)) (concatenate S2x256x4 2 [⟨S2x256x2, (res_main_v100 V0)⟩, ⟨S2x256x2, (res_main_v106 V0)⟩] concatenates_S2x256x2_S2x256x2_S2x256x4_d2) (broadcastInDim S2x256x4 ![] bcast_S_S2x256x4 (id (constant S_ .f32 0x00000000#32)))

/-- `res_main_v121` by its position among the values @main returns, 6 counting from 0: the name for hand proofs to cite, since
    a re-print renumbers `main_v121`. An abbreviation: it unfolds to the `res_main_v121` that `run` states. -/
abbrev res_out6 (V0 : Valuation τ sig (Elt F)) : (Proc.devRef .tc main_v121 : DevRef τ sig).ty.Contents (Elt F) := res_main_v121 V0

set_option maxRecDepth 8192 in
/-- `main_v117`'s composed term of the arguments (named: it is long). -/
def res_main_v117 (V0 : Valuation τ sig (Elt F)) : (Proc.devRef .tc main_v117 : DevRef τ sig).ty.Contents (Elt F) :=
  select (res_main_v114 V0) (shapeCast _ (extractStridedSlice S2x256x1 ![0, 0, 4] (res_main_v75 V0) slices_S2x256x5_S2x256x1_0_0_4) shapeCasts_S2x256x1_S2x256) (broadcastInDim S2x256 ![] bcast_S_S2x256 (id (constant S_ .f32 0x00000000#32)))

/-- `res_main_v117` by its position among the values @main returns, 3 counting from 0: the name for hand proofs to cite, since
    a re-print renumbers `main_v117`. An abbreviation: it unfolds to the `res_main_v117` that `run` states. -/
abbrev res_out3 (V0 : Valuation τ sig (Elt F)) : (Proc.devRef .tc main_v117 : DevRef τ sig).ty.Contents (Elt F) := res_main_v117 V0

set_option maxRecDepth 8192 in
/-- `main_v72`'s composed term of the arguments (named: it is long). -/
def res_main_v72 (V0 : Valuation τ sig (Elt F)) : (Proc.devRef .tc main_v72 : DevRef τ sig).ty.Contents (Elt F) :=
  concatenate S2x256x5 2 [⟨S2x256x1, (broadcastInDim S2x256x1 ![0, 1, 2] bcast_S2x1x1_S2x256x1_0_1_2 (broadcastInDim S2x1x1 ![0] bcast_S2_S2x1x1_0 (sitofp .f32 (iotaInDim S2 32 0))))⟩, ⟨S2x256x4, (res_main_v70 V0)⟩] concatenates_S2x256x1_S2x256x4_S2x256x5_d2

/-- `res_main_v72` by its position among the values @main returns, 0 counting from 0: the name for hand proofs to cite, since
    a re-print renumbers `main_v72`. An abbreviation: it unfolds to the `res_main_v72` that `run` states. -/
abbrev res_out0 (V0 : Valuation τ sig (Elt F)) : (Proc.devRef .tc main_v72 : DevRef τ sig).ty.Contents (Elt F) := res_main_v72 V0

end Cert.ReferenceIdeal.Value

end
-- ==== Proof.ReferenceRun.lean ====
/- The reference program's run: what each buffer holds after each window of its operations, and that the program finishes
   with every result at its value and the arguments unchanged. -/
module

public import proofs.«01_k».proof.Proof.ReferenceOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_cst, main_v9, main_v10, main_v11, main_v12, main_v13, main_cst_0, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_cst_1, main_v43, main_v44, main_cst_2, main_v45, main_v46, main_v47, main_v48, main_v49, main_v50, main_v51, main_v52, main_v53, main_v54, main_v55]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
theorem val1_main_v1 (V0 : Valuation τ sig (Elt F)) : val1 V0 (no_index (Proc.devRef .tc main_v1)) = broadcastInDim S2x1x1 ![0] bcast_S2_S2x1x1_0 (sitofp .f32 (iotaInDim S2 32 0)) := by
  unfold val1
  simp only [ops_part0]
  after_results_simp
  all_goals rfl
set_option maxRecDepth 8192 in
set_option maxHeartbeats 2000000 in
theorem val1_main_v4 (V0 : Valuation τ sig (Elt F)) : val1 V0 (no_index (Proc.devRef .tc main_v4)) = res_main_v4 V0 := by
  unfold val1
  simp only [ops_part0]
  after_results_simp
  simp only [val0_main_arg1, val0_main_arg0] <;> rfl
set_option maxRecDepth 8192 in
set_option maxHeartbeats 2000000 in
theorem val1_main_v51 (V0 : Valuation τ sig (Elt F)) : val1 V0 (no_index (Proc.devRef .tc main_v51)) = res_main_v51 V0 := by
  unfold val1
  simp only [ops_part0]
  after_results_simp
  simp only [val0_main_arg1, val0_main_arg0] <;> rfl
set_option maxRecDepth 8192 in
set_option maxHeartbeats 2000000 in
theorem val1_main_v55 (V0 : Valuation τ sig (Elt F)) : val1 V0 (no_index (Proc.devRef .tc main_v55)) = subf (res_main_v54 V0) (res_main_v51 V0) := by
  unfold val1
  simp only [ops_part0]
  after_results_simp
  simp only [val0_main_arg1, val0_main_arg0] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v56, main_cst_3, main_v57, main_call0_v0, main_call0_cst, main_call0_c, main_call0_v1_0, main_v58, main_cst_4, main_v59, main_v60, main_cst_5, main_v61, main_v62, main_cst_6, main_v63, main_v64, main_v65, main_cst_7, main_call1_v0, main_call1_v1, main_v66, main_cst_8, main_call2_v0, main_call2_v1, main_v67, main_values, main_indices, main_values_9, main_indices_10]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v1 (V0 : Valuation τ sig (Elt F)) : val1_1 V0 (no_index (Proc.devRef .tc main_v1)) = broadcastInDim S2x1x1 ![0] bcast_S2_S2x1x1_0 (sitofp .f32 (iotaInDim S2 32 0)) :=
  (val1_1_keep V0 main_v1 (by decide)).trans (val1_main_v1 V0)
theorem val1_1_main_v4 (V0 : Valuation τ sig (Elt F)) : val1_1 V0 (no_index (Proc.devRef .tc main_v4)) = res_main_v4 V0 :=
  (val1_1_keep V0 main_v4 (by decide)).trans (val1_main_v4 V0)
set_option maxRecDepth 8192 in
set_option maxHeartbeats 2000000 in
theorem val1_1_main_v58 (V0 : Valuation τ sig (Elt F)) : val1_1 V0 (no_index (Proc.devRef .tc main_v58)) = res_main_v58 V0 := by
  unfold val1_1
  simp only [ops_part1_0, TRef.nullary, TRef.quaternary, TRef.ternary, TRef.unary, TRef.toBuf, TRef.ofBuf, cast_eq]
  after_results_simp
  simp only [val1_main_v55, val1_main_v51] <;> rfl
set_option maxRecDepth 8192 in
set_option maxHeartbeats 2000000 in
theorem val1_1_main_v60 (V0 : Valuation τ sig (Elt F)) : val1_1 V0 (no_index (Proc.devRef .tc main_v60)) = res_main_v60 V0 := by
  unfold val1_1
  simp only [ops_part1_0, TRef.nullary, TRef.quaternary, TRef.ternary, TRef.unary, TRef.toBuf, TRef.ofBuf, cast_eq]
  after_results_simp
  simp only [val1_main_v55, val1_main_v51] <;> rfl
set_option maxRecDepth 8192 in
set_option maxHeartbeats 2000000 in
theorem val1_1_main_indices (V0 : Valuation τ sig (Elt F)) : val1_1 V0 (no_index (Proc.devRef .tc main_indices)) = (Host.topK S2x64 1 (FloatOps.cmpfTotal .gt) (res_main_v66 V0) sliceFits_S2x5020_S2x64).2 := by
  unfold val1_1
  simp only [ops_part1_0, TRef.nullary, TRef.quaternary, TRef.ternary, TRef.unary, TRef.toBuf, TRef.ofBuf, cast_eq]
  after_results_simp
  simp only [val1_main_v55, val1_main_v51] <;> rfl
set_option maxRecDepth 8192 in
set_option maxHeartbeats 2000000 in
theorem val1_1_main_indices_10 (V0 : Valuation τ sig (Elt F)) : val1_1 V0 (no_index (Proc.devRef .tc main_indices_10)) = (Host.topK S2x192 1 (FloatOps.cmpfTotal .gt) (res_main_v67 V0) sliceFits_S2x5020_S2x192).2 := by
  unfold val1_1
  simp only [ops_part1_0, TRef.nullary, TRef.quaternary, TRef.ternary, TRef.unary, TRef.toBuf, TRef.ofBuf, cast_eq]
  after_results_simp
  simp only [val1_main_v55, val1_main_v51] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v68, main_v69, main_call3_c, main_call3_v0, main_call3_v1, main_call3_c_0, main_call3_v2, main_call3_v3, main_call3_v4, main_v70, main_v71, main_v72, main_call4_c, main_call4_v0, main_call4_v1, main_call4_c_0, main_call4_v2, main_call4_v3, main_call4_v4, main_call4_v5, main_v73, main_v74, main_call5_c, main_call5_v0, main_call5_v1, main_call5_c_0, main_call5_v2, main_call5_v3, main_call5_v4, main_v75]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v60 (V0 : Valuation τ sig (Elt F)) : val1_2 V0 (no_index (Proc.devRef .tc main_v60)) = res_main_v60 V0 :=
  (val1_2_keep V0 main_v60 (by decide)).trans (val1_1_main_v60 V0)
set_option maxRecDepth 8192 in
set_option maxHeartbeats 2000000 in
theorem val1_2_main_v68 (V0 : Valuation τ sig (Elt F)) : val1_2 V0 (no_index (Proc.devRef .tc main_v68)) = res_main_v68 V0 := by
  unfold val1_2
  simp only [ops_part1_1, TRef.binary, TRef.nullary, TRef.reshape, TRef.ternary, TRef.unary, TRef.toBuf, TRef.ofBuf, cast_eq]
  after_results_simp
  simp only [val1_1_main_indices_10, val1_1_main_indices] <;> rfl
set_option maxRecDepth 8192 in
set_option maxHeartbeats 2000000 in
theorem val1_2_main_v70 (V0 : Valuation τ sig (Elt F)) : val1_2 V0 (no_index (Proc.devRef .tc main_v70)) = res_main_v70 V0 := by
  unfold val1_2
  simp only [ops_part1_1, TRef.binary, TRef.nullary, TRef.reshape, TRef.ternary, TRef.unary, TRef.toBuf, TRef.ofBuf, cast_eq]
  after_results_simp
  simp only [val1_1_main_indices_10, val1_1_main_indices, val1_1_main_v4] <;> rfl
set_option maxRecDepth 8192 in
set_option maxHeartbeats 2000000 in
theorem val1_2_main_v72 (V0 : Valuation τ sig (Elt F)) : val1_2 V0 (no_index (Proc.devRef .tc main_v72)) = res_main_v72 V0 := by
  unfold val1_2
  simp only [ops_part1_1, TRef.binary, TRef.nullary, TRef.reshape, TRef.ternary, TRef.unary, TRef.toBuf, TRef.ofBuf, cast_eq]
  after_results_simp
  simp only [val1_1_main_indices_10, val1_1_main_indices, val1_1_main_v4, val1_1_main_v1] <;> rfl
set_option maxRecDepth 8192 in
set_option maxHeartbeats 2000000 in
theorem val1_2_main_v75 (V0 : Valuation τ sig (Elt F)) : val1_2 V0 (no_index (Proc.devRef .tc main_v75)) = res_main_v75 V0 := by
  unfold val1_2
  simp only [ops_part1_1, TRef.binary, TRef.nullary, TRef.reshape, TRef.ternary, TRef.unary, TRef.toBuf, TRef.ofBuf, cast_eq]
  after_results_simp
  simp only [val1_1_main_indices_10, val1_1_main_indices, val1_1_main_v58, val1_1_main_arg1] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v76, main_v77, main_v78, main_v79, main_cst_11, main_v80, main_v81, main_v82, main_v83, main_v84, main_cst_12, main_v85, main_v86, main_v87, main_cst_13, main_v88, main_v89, main_v90, main_v91, main_cst_14, main_v92, main_v93, main_v94, main_v95, main_v96, main_cst_15, main_v97, main_v98, main_cst_16, main_v99]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v60 (V0 : Valuation τ sig (Elt F)) : val2 V0 (no_index (Proc.devRef .tc main_v60)) = res_main_v60 V0 :=
  (val2_keep V0 main_v60 (by decide)).trans (val1_2_main_v60 V0)
theorem val2_main_v68 (V0 : Valuation τ sig (Elt F)) : val2 V0 (no_index (Proc.devRef .tc main_v68)) = res_main_v68 V0 :=
  (val2_keep V0 main_v68 (by decide)).trans (val1_2_main_v68 V0)
theorem val2_main_v72 (V0 : Valuation τ sig (Elt F)) : val2 V0 (no_index (Proc.devRef .tc main_v72)) = res_main_v72 V0 :=
  (val2_keep V0 main_v72 (by decide)).trans (val1_2_main_v72 V0)
theorem val2_main_v75 (V0 : Valuation τ sig (Elt F)) : val2 V0 (no_index (Proc.devRef .tc main_v75)) = res_main_v75 V0 :=
  (val2_keep V0 main_v75 (by decide)).trans (val1_2_main_v75 V0)
set_option maxRecDepth 8192 in
set_option maxHeartbeats 2000000 in
theorem val2_main_v81 (V0 : Valuation τ sig (Elt F)) : val2 V0 (no_index (Proc.devRef .tc main_v81)) = res_main_v81 V0 := by
  unfold val2
  simp only [ops_part1_2]
  after_results_simp
  simp only [val1_2_main_v70] <;> rfl
set_option maxRecDepth 8192 in
set_option maxHeartbeats 2000000 in
theorem val2_main_v86 (V0 : Valuation τ sig (Elt F)) : val2 V0 (no_index (Proc.devRef .tc main_v86)) = res_main_v86 V0 := by
  unfold val2
  simp only [ops_part1_2]
  after_results_simp
  simp only [val1_2_main_v75] <;> rfl
set_option maxRecDepth 8192 in
set_option maxHeartbeats 2000000 in
theorem val2_main_v98 (V0 : Valuation τ sig (Elt F)) : val2 V0 (no_index (Proc.devRef .tc main_v98)) = subf (Host.divf (subf (res_main_v94 V0) (res_main_v90 V0)) (res_main_v81 V0)) (broadcastInDim S2x256x2 ![] bcast_S_S2x256x2 (constant S_ .f32 0x00000000#32)) := by
  unfold val2
  simp only [ops_part1_2]
  after_results_simp
  simp only [val1_2_main_v70, val1_2_main_v75] <;> rfl
set_option maxRecDepth 8192 in
set_option maxHeartbeats 2000000 in
theorem val2_main_v99 (V0 : Valuation τ sig (Elt F)) : val2 V0 (no_index (Proc.devRef .tc main_v99)) = broadcastInDim S2x256x2 ![] bcast_S_S2x256x2 (constant S_ .f32 0x3DCCCCCD#32) := by
  unfold val2
  simp only [ops_part1_2]
  after_results_simp
  all_goals rfl

/-- The device's buffer contents after @main's first 180 operations. -/
def val2_1 (V0 : Valuation τ sig (Elt F)) : Valuation τ sig (Elt F) := after ops_part2_0 (val2 V0)
/-- The buffers that window `ops_part2_0`'s operations write. -/
abbrev ops_part2_0_W : List (Ref sig .tc) := [main_v100, main_v101, main_v102, main_cst_17, main_v103, main_v104, main_cst_18, main_v105, main_v106, main_v107, main_v108, main_c, main_v109, main_v110, main_v111, main_call6_c, main_call6_v0, main_call6_v1, main_call6_c_0, main_call6_v2, main_call6_v3, main_call6_v4, main_call6_v5, main_v112, main_v113, main_v114, main_v115, main_v116, main_cst_19, main_call7_v0]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_v72 (V0 : Valuation τ sig (Elt F)) : val2_1 V0 (no_index (Proc.devRef .tc main_v72)) = res_main_v72 V0 :=
  (val2_1_keep V0 main_v72 (by decide)).trans (val2_main_v72 V0)
set_option maxRecDepth 8192 in
set_option maxHeartbeats 2000000 in
theorem val2_1_main_v107 (V0 : Valuation τ sig (Elt F)) : val2_1 V0 (no_index (Proc.devRef .tc main_v107)) = concatenate S2x256x4 2 [⟨S2x256x2, (res_main_v100 V0)⟩, ⟨S2x256x2, (res_main_v106 V0)⟩] concatenates_S2x256x2_S2x256x2_S2x256x4_d2 := by
  unfold val2_1
  simp only [ops_part2_0, TRef.binary, TRef.nullary, TRef.reshape, TRef.ternary, TRef.unary, TRef.toBuf, TRef.ofBuf, cast_eq]
  after_results_simp
  simp only [val2_main_v81, val2_main_v86, val2_main_v99, val2_main_v98] <;> rfl
set_option maxRecDepth 8192 in
set_option maxHeartbeats 2000000 in
theorem val2_1_main_v114 (V0 : Valuation τ sig (Elt F)) : val2_1 V0 (no_index (Proc.devRef .tc main_v114)) = res_main_v114 V0 := by
  unfold val2_1
  simp only [ops_part2_0, TRef.binary, TRef.nullary, TRef.reshape, TRef.ternary, TRef.unary, TRef.toBuf, TRef.ofBuf, cast_eq]
  after_results_simp
  simp only [val2_main_v68, val2_main_v60] <;> rfl
set_option maxRecDepth 8192 in
set_option maxHeartbeats 2000000 in
theorem val2_1_main_v116 (V0 : Valuation τ sig (Elt F)) : val2_1 V0 (no_index (Proc.devRef .tc main_v116)) = shapeCast _ (extractStridedSlice S2x256x1 ![0, 0, 4] (res_main_v75 V0) slices_S2x256x5_S2x256x1_0_0_4) shapeCasts_S2x256x1_S2x256 := by
  unfold val2_1
  simp only [ops_part2_0, TRef.binary, TRef.nullary, TRef.reshape, TRef.ternary, TRef.unary, TRef.toBuf, TRef.ofBuf, cast_eq]
  after_results_simp
  simp only [val2_main_v75] <;> rfl
set_option maxRecDepth 8192 in
set_option maxHeartbeats 2000000 in
theorem val2_1_main_call7_v0 (V0 : Valuation τ sig (Elt F)) : val2_1 V0 (no_index (Proc.devRef .tc main_call7_v0)) = id (constant S_ .f32 0x00000000#32) := by
  unfold val2_1
  simp only [ops_part2_0, TRef.binary, TRef.nullary, TRef.reshape, TRef.ternary, TRef.unary, TRef.toBuf, TRef.ofBuf, cast_eq]
  after_results_simp
  all_goals rfl

/-- The device's buffer contents after @main's first 210 operations. -/
def val2_2 (V0 : Valuation τ sig (Elt F)) : Valuation τ sig (Elt F) := after ops_part2_1 (val2_1 V0)
/-- The buffers that window `ops_part2_1`'s operations write. -/
abbrev ops_part2_1_W : List (Ref sig .tc) := [main_call7_v1, main_v117, main_cst_20, main_v118, main_v119, main_v120, main_cst_21, main_call8_v0, main_call8_v1, main_call8_v2, main_v121, main_cst_22, main_v122, main_cst_23, main_call9_v0, main_call9_v1, main_call9_v2, main_call9_v3, main_v123, main_cst_24, main_v124, main_v125, main_v126, main_cst_25, main_v127, main_cst_26, main_v128, main_cst_27, main_v129, main_cst_28]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_v72 (V0 : Valuation τ sig (Elt F)) : val2_2 V0 (no_index (Proc.devRef .tc main_v72)) = res_main_v72 V0 :=
  (val2_2_keep V0 main_v72 (by decide)).trans (val2_1_main_v72 V0)
set_option maxRecDepth 8192 in
set_option maxHeartbeats 2000000 in
theorem val2_2_main_v117 (V0 : Valuation τ sig (Elt F)) : val2_2 V0 (no_index (Proc.devRef .tc main_v117)) = res_main_v117 V0 := by
  unfold val2_2
  simp only [ops_part2_1, TRef.ternary, TRef.unary, TRef.toBuf, TRef.ofBuf, cast_eq]
  after_results_simp
  simp only [val2_1_main_call7_v0, val2_1_main_v116, val2_1_main_v114] <;> rfl
set_option maxRecDepth 8192 in
set_option maxHeartbeats 2000000 in
theorem val2_2_main_v121 (V0 : Valuation τ sig (Elt F)) : val2_2 V0 (no_index (Proc.devRef .tc main_v121)) = res_main_v121 V0 := by
  unfold val2_2
  simp only [ops_part2_1, TRef.ternary, TRef.unary, TRef.toBuf, TRef.ofBuf, cast_eq]
  after_results_simp
  simp only [val2_1_main_v107, val2_1_main_call7_v0, val2_1_main_v116, val2_1_main_v114] <;> rfl
set_option maxRecDepth 8192 in
set_option maxHeartbeats 2000000 in
theorem val2_2_main_v123 (V0 : Valuation τ sig (Elt F)) : val2_2 V0 (no_index (Proc.devRef .tc main_v123)) = res_main_v123 V0 := by
  unfold val2_2
  simp only [ops_part2_1, TRef.ternary, TRef.unary, TRef.toBuf, TRef.ofBuf, cast_eq]
  after_results_simp
  simp only [val2_1_main_call7_v0, val2_1_main_v116, val2_1_main_v114] <;> rfl
set_option maxRecDepth 8192 in
set_option maxHeartbeats 2000000 in
theorem val2_2_main_v126 (V0 : Valuation τ sig (Elt F)) : val2_2 V0 (no_index (Proc.devRef .tc main_v126)) = uitofp .f32 (res_main_v125 V0) := by
  unfold val2_2
  simp only [ops_part2_1, TRef.ternary, TRef.unary, TRef.toBuf, TRef.ofBuf, cast_eq]
  after_results_simp
  simp only [val2_1_main_call7_v0, val2_1_main_v116, val2_1_main_v114] <;> rfl
set_option maxRecDepth 8192 in
set_option maxHeartbeats 2000000 in
theorem val2_2_main_v127 (V0 : Valuation τ sig (Elt F)) : val2_2 V0 (no_index (Proc.devRef .tc main_v127)) = broadcastInDim S2x256x201 ![] bcast_S_S2x256x201 (constant S_ .f32 0x00000000#32) := by
  unfold val2_2
  simp only [ops_part2_1, TRef.ternary, TRef.unary, TRef.toBuf, TRef.ofBuf, cast_eq]
  after_results_simp
  all_goals rfl
set_option maxRecDepth 8192 in
set_option maxHeartbeats 2000000 in
theorem val2_2_main_v128 (V0 : Valuation τ sig (Elt F)) : val2_2 V0 (no_index (Proc.devRef .tc main_v128)) = broadcastInDim S2x256x1 ![] bcast_S_S2x256x1 (constant S_ .f32 0x00000000#32) := by
  unfold val2_2
  simp only [ops_part2_1, TRef.ternary, TRef.unary, TRef.toBuf, TRef.ofBuf, cast_eq]
  after_results_simp
  all_goals rfl
set_option maxRecDepth 8192 in
set_option maxHeartbeats 2000000 in
theorem val2_2_main_v129 (V0 : Valuation τ sig (Elt F)) : val2_2 V0 (no_index (Proc.devRef .tc main_v129)) = broadcastInDim S2x256x9 ![] bcast_S_S2x256x9 (constant S_ .f32 0x00000000#32) := by
  unfold val2_2
  simp only [ops_part2_1, TRef.ternary, TRef.unary, TRef.toBuf, TRef.ofBuf, cast_eq]
  after_results_simp
  all_goals rfl
set_option maxRecDepth 8192 in
set_option maxHeartbeats 2000000 in
theorem val2_2_main_cst_28 (V0 : Valuation τ sig (Elt F)) : val2_2 V0 (no_index (Proc.devRef .tc main_cst_28)) = constant S_ .f32 0x00000000#32 := by
  unfold val2_2
  simp only [ops_part2_1, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v130]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_v72 (V0 : Valuation τ sig (Elt F)) : val3 V0 (no_index (Proc.devRef .tc main_v72)) = res_main_v72 V0 :=
  (val3_keep V0 main_v72 (by decide)).trans (val2_2_main_v72 V0)
theorem val3_main_v117 (V0 : Valuation τ sig (Elt F)) : val3 V0 (no_index (Proc.devRef .tc main_v117)) = res_main_v117 V0 :=
  (val3_keep V0 main_v117 (by decide)).trans (val2_2_main_v117 V0)
theorem val3_main_v121 (V0 : Valuation τ sig (Elt F)) : val3 V0 (no_index (Proc.devRef .tc main_v121)) = res_main_v121 V0 :=
  (val3_keep V0 main_v121 (by decide)).trans (val2_2_main_v121 V0)
theorem val3_main_v123 (V0 : Valuation τ sig (Elt F)) : val3 V0 (no_index (Proc.devRef .tc main_v123)) = res_main_v123 V0 :=
  (val3_keep V0 main_v123 (by decide)).trans (val2_2_main_v123 V0)
theorem val3_main_v126 (V0 : Valuation τ sig (Elt F)) : val3 V0 (no_index (Proc.devRef .tc main_v126)) = uitofp .f32 (res_main_v125 V0) :=
  (val3_keep V0 main_v126 (by decide)).trans (val2_2_main_v126 V0)
theorem val3_main_v127 (V0 : Valuation τ sig (Elt F)) : val3 V0 (no_index (Proc.devRef .tc main_v127)) = broadcastInDim S2x256x201 ![] bcast_S_S2x256x201 (constant S_ .f32 0x00000000#32) :=
  (val3_keep V0 main_v127 (by decide)).trans (val2_2_main_v127 V0)
theorem val3_main_v128 (V0 : Valuation τ sig (Elt F)) : val3 V0 (no_index (Proc.devRef .tc main_v128)) = broadcastInDim S2x256x1 ![] bcast_S_S2x256x1 (constant S_ .f32 0x00000000#32) :=
  (val3_keep V0 main_v128 (by decide)).trans (val2_2_main_v128 V0)
theorem val3_main_v129 (V0 : Valuation τ sig (Elt F)) : val3 V0 (no_index (Proc.devRef .tc main_v129)) = broadcastInDim S2x256x9 ![] bcast_S_S2x256x9 (constant S_ .f32 0x00000000#32) :=
  (val3_keep V0 main_v129 (by decide)).trans (val2_2_main_v129 V0)
set_option maxRecDepth 8192 in
theorem val3_main_v130 (V0 : Valuation τ sig (Elt F)) : val3 V0 (no_index (Proc.devRef .tc main_v130)) = broadcastInDim S2x256x2 ![] bcast_S_S2x256x2 (constant S_ .f32 0x00000000#32) := by
  unfold val3
  simp only [ops_part2_2]
  after_results_simp
  simp only [val2_2_main_cst_28] <;> rfl

theorem after_ops (V0 : Valuation τ sig (Elt F)) : after ops V0 = val3 V0 := by
  simp only [ops, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = res_main_v72 (launchContents m c)
      ∧ r.2.mem ((c.tc : Thread nD τ).loc main_v129) = broadcastInDim S2x256x9 ![] bcast_S_S2x256x9 (constant S_ .f32 0x00000000#32)
      ∧ r.2.mem ((c.tc : Thread nD τ).loc main_v130) = broadcastInDim S2x256x2 ![] bcast_S_S2x256x2 (constant S_ .f32 0x00000000#32)
      ∧ r.2.mem ((c.tc : Thread nD τ).loc main_v117) = res_main_v117 (launchContents m c)
      ∧ r.2.mem ((c.tc : Thread nD τ).loc main_v127) = broadcastInDim S2x256x201 ![] bcast_S_S2x256x201 (constant S_ .f32 0x00000000#32)
      ∧ r.2.mem ((c.tc : Thread nD τ).loc main_v128) = broadcastInDim S2x256x1 ![] bcast_S_S2x256x1 (constant S_ .f32 0x00000000#32)
      ∧ r.2.mem ((c.tc : Thread nD τ).loc main_v121) = res_main_v121 (launchContents m c)
      ∧ r.2.mem ((c.tc : Thread nD τ).loc main_v123) = res_main_v123 (launchContents m c)
      ∧ r.2.mem ((c.tc : Thread nD τ).loc main_v126) = uitofp .f32 (res_main_v125 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v72).trans ((congrFun (after_ops (launchContents m c)) (Proc.devRef .tc main_v72)).trans (val3_main_v72 (launchContents m c))),
      (h c main_v129).trans ((congrFun (after_ops (launchContents m c)) (Proc.devRef .tc main_v129)).trans (val3_main_v129 (launchContents m c))),
      (h c main_v130).trans ((congrFun (after_ops (launchContents m c)) (Proc.devRef .tc main_v130)).trans (val3_main_v130 (launchContents m c))),
      (h c main_v117).trans ((congrFun (after_ops (launchContents m c)) (Proc.devRef .tc main_v117)).trans (val3_main_v117 (launchContents m c))),
      (h c main_v127).trans ((congrFun (after_ops (launchContents m c)) (Proc.devRef .tc main_v127)).trans (val3_main_v127 (launchContents m c))),
      (h c main_v128).trans ((congrFun (after_ops (launchContents m c)) (Proc.devRef .tc main_v128)).trans (val3_main_v128 (launchContents m c))),
      (h c main_v121).trans ((congrFun (after_ops (launchContents m c)) (Proc.devRef .tc main_v121)).trans (val3_main_v121 (launchContents m c))),
      (h c main_v123).trans ((congrFun (after_ops (launchContents m c)) (Proc.devRef .tc main_v123)).trans (val3_main_v123 (launchContents m c))),
      (h c main_v126).trans ((congrFun (after_ops (launchContents m c)) (Proc.devRef .tc main_v126)).trans (val3_main_v126 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c)))⟩)
    (run_seq scopedRefs_eq scopedSems_eq defs main (fun _ => ops) main_eq (fun _ => ops_sub) m ρ fun _ => ops_fresh)

end Cert.ReferenceIdeal.Value

end
-- ==== Proof.ReferenceFrame.lean ====
/- The reference program finishes with its arguments unchanged and every semaphore at zero. -/
module

public import proofs.«01_k».proof.Proof.ReferenceRun
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- From any memory with zero counters the reference finishes, both arguments unchanged; it declares no semaphore, so
    all of them read zero at the end. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2.2.2.2.2.2.2.2.2, sem_eq_zero_of_no_sems rfl r.2⟩) (run m ρ)

end Cert.ReferenceIdeal.Value

end
-- ==== Proof.IdealFrame.lean ====
/- The whole run of the program: three kernel regions among stretches of host operations.
   For each region, over any contents `V` of the buffers at its entry, `iblkK` is a window's block at a grid point,
   `outsAtK` (or `outK_W`) what the body leaves in its output buffers, `datK` the region's data over these, and
   `body_obligationK` the proof that the body does so. `WJ` is what every buffer holds at the J-th boundary between a
   stretch and a region, from the launch memory on. `ends` then says that the program always finishes, with every
   buffer at `W7` and every semaphore at zero, and `frame` reads off that the arguments are unchanged. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__iou_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x8x40x128 .f32 := (Memref.whole cc0_stg2_0 : Memref sig .tc .vmem S1x8x40x128 .f32).view
/-- Each window's current staging memref at point `t`, spelled as the pipeline passes it (`bodyAt0`), and its wholeness. -/
abbrev ms0_0 (t : Fin cfg0.N) : Memref sig .tc .vmem S1x4x40x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x20x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x40x128 .f32 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x4x40x128 .f32) (harg1 : arg1.IsWhole) (arg2 : Memref sig .tc .smem S1x20x5 .f32) (harg2 : arg2.IsWhole) (arg3 : Memref sig .tc .vmem S1x8x40x128 .f32) (harg3 : arg3.IsWhole)
    (x0 : Vec F S1x4x40x128 .f32) (x1 : Vec F S1x20x5 .f32) :
    { L2 : List (View.Piece (Elt F) S1x8x40x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__iou_body i arg1 harg1 arg2 harg2 arg3 harg3) K } := by
  refine ⟨?_, fun E K => ?run⟩
  case run =>
    simp only [cc0__iou_body_eq_skeleton]; unfold cc0__iou_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (8 stores of `S1x1x40x128`, checked by evaluation: Lib/Ring.lean `Piece.tiledL`, linear in the pieces, through a loop's `@[irreducible]` trip theorem too), so they cover it. -/
theorem cover0_A_2 (c : Dev nD) (i : grid0.Coords) (arg1 : Memref sig .tc .vmem S1x4x40x128 .f32) (harg1 : arg1.IsWhole) (arg2 : Memref sig .tc .smem S1x20x5 .f32) (harg2 : arg2.IsWhole) (arg3 : Memref sig .tc .vmem S1x8x40x128 .f32) (harg3 : arg3.IsWhole)
    (x0 : Vec F S1x4x40x128 .f32) (x1 : Vec F S1x20x5 .f32) (y : S1x8x40x128.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x1x40x128.size (by sl_kernel_rfl) y

/-- What the run leaves in output 2's staging buffer: its pieces read back over junk. -/
def out0_A_2 (c : Dev nD) (i : grid0.Coords) (arg1 : Memref sig .tc .vmem S1x4x40x128 .f32) (harg1 : arg1.IsWhole) (arg2 : Memref sig .tc .smem S1x20x5 .f32) (harg2 : arg2.IsWhole) (arg3 : Memref sig .tc .vmem S1x8x40x128 .f32) (harg3 : arg3.IsWhole)
    (x0 : Vec F S1x4x40x128 .f32) (x1 : Vec F S1x20x5 .f32) : Vec F S1x8x40x128 .f32 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S1x8x40x128 .f32 :=
  out0_A_2 c (grid0.coords t) (ms0_0 t) (hs0_0 t) (ms0_1 t) (hs0_1 t) (ms0_2 t) (hs0_2 t) (iblk0 V c 0 t) (iblk0 V c 1 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__rank_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x5120 := Rect.unit (s := S1x1x5120) ![0, 0, 0] S1x1x5120.size inb_S1x1x5120_S1x1x5120_0_0_0
abbrev r1_1 : Rect S1x512x1 := Rect.unit (s := S1x512x1) ![0, 0, 0] S1x512x1.size inb_S1x512x1_S1x512x1_0_0_0

/-! ## What the body leaves in each output window's buffer -/

/-- Window 4's staging buffer after the body, from the input windows' blocks: its 1 store as pieces, LAST
    FIRST (Lib/Pipeline/FrameBody.lean `View.canon`; the payloads are the skeleton's). -/
def out1_4 (i : grid1.Coords) (x0 : Vec F S1x1x5120 .f32) (x1 : Vec F S1x1x5120 .f32) (x2 : Vec F S1x512x1 .f32) (x3 : Vec F S1x512x1 .f32) : Vec F S1x512x1 .i32 :=
  View.canon [⟨r1_1, k1_pay3 i (View.ld x0 r1_0) (View.ld x2 r1_1)⟩]

/-- Its stores tile the buffer (checked by evaluation), so they cover it. -/
theorem cover1_4 (p0 : Vec F S1x512x1 .i32) (y : S1x512x1.Idx) :
    ∃ pc ∈ ([⟨r1_1, p0⟩] : List (View.Piece (Elt F) S1x512x1 .i32)), y ∈ pc.1.set :=
  View.cover_of_tiled [⟨r1_1, p0⟩] S1x512x1.size (by rfl) y

/-- Window 5's staging buffer after the body, from the input windows' blocks: its 1 store as pieces, LAST
    FIRST (Lib/Pipeline/FrameBody.lean `View.canon`; the payloads are the skeleton's). -/
def out1_5 (i : grid1.Coords) (x0 : Vec F S1x1x5120 .f32) (x1 : Vec F S1x1x5120 .f32) (x2 : Vec F S1x512x1 .f32) (x3 : Vec F S1x512x1 .f32) : Vec F S1x512x1 .i32 :=
  View.canon [⟨r1_1, k1_pay1 (k1_pay4 i (View.ld x1 r1_0) (View.ld x3 r1_1))⟩]

/-- Its stores tile the buffer (checked by evaluation), so they cover it. -/
theorem cover1_5 (p0 : Vec F S1x512x1 .i32) (y : S1x512x1.Idx) :
    ∃ pc ∈ ([⟨r1_1, p0⟩] : List (View.Piece (Elt F) S1x512x1 .i32)), y ∈ pc.1.set :=
  View.cover_of_tiled [⟨r1_1, p0⟩] S1x512x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x1x5120 .f32) (harg2 : arg2.IsWhole) (arg3 : Memref sig .tc .vmem S1x1x5120 .f32) (harg3 : arg3.IsWhole) (arg4 : Memref sig .tc .vmem S1x512x1 .f32) (harg4 : arg4.IsWhole) (arg5 : Memref sig .tc .vmem S1x512x1 .f32) (harg5 : arg5.IsWhole) (arg6 : Memref sig .tc .vmem S1x512x1 .i32) (harg6 : arg6.IsWhole) (arg7 : Memref sig .tc .vmem S1x512x1 .i32) (harg7 : arg7.IsWhole)
    (x0 : Vec F S1x1x5120 .f32) (x1 : Vec F S1x1x5120 .f32) (x2 : Vec F S1x512x1 .f32) (x3 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3) ∗ owns (c : Thread nD τ) arg7 fullShare (out1_5 i x0 x1 x2 x3)) -∗ K ⟨⟩))
      ⊢ wp frame (wpE (defs₀ (F := F)) Variants.none c none) E (cc1__rank_body i arg2 harg2 arg3 harg3 arg4 harg4 arg5 harg5 arg6 harg6 arg7 harg7) K := by
  simp only [cc1__rank_body_eq_skeleton]; unfold cc1__rank_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
    | ⟨5, _⟩ => out1_5 (grid1.coords t) (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (grid1.coords t) (iblk1 V c 0 t) (iblk1 V c 1 t) (iblk1 V c 2 t) (iblk1 V c 3 t) := by dsimp only [dat1]
theorem after1_5 (c : Dev nD) (t : Fin cfg1.N) : (dat1 V c).after 5 t = out1_5 (grid1.coords t) (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__gather_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S1x256x5 .f32 := (Memref.whole cc2_stg3_0 : Memref sig .tc .vmem S1x256x5 .f32).view
/-- One staging buffer of output window 4, through which its contents are stated (`View.read_writes_of_cover`: the
    choice does not matter). -/
abbrev VO2_4 : View sig .tc .vmem S1x256x1 .f32 := (Memref.whole cc2_stg4_0 : Memref sig .tc .vmem S1x256x1 .f32).view
/-- One staging buffer of output window 5, through which its contents are stated (`View.read_writes_of_cover`: the
    choice does not matter). -/
abbrev VO2_5 : View sig .tc .vmem S1x256x4 .f32 := (Memref.whole cc2_stg5_0 : Memref sig .tc .vmem S1x256x4 .f32).view
/-- One staging buffer of output window 6, through which its contents are stated (`View.read_writes_of_cover`: the
    choice does not matter). -/
abbrev VO2_6 : View sig .tc .vmem S1x256x4 .f32 := (Memref.whole cc2_stg6_0 : Memref sig .tc .vmem S1x256x4 .f32).view
/-- Each window's current staging memref at point `t`, spelled as the pipeline passes it (`bodyAt2`), and its wholeness. -/
abbrev ms2_0 (t : Fin cfg2.N) : Memref sig .tc .vmem S1x1x5120 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x5120 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x5120x10 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x5 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256x4 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x256x4 .f32 := win2_6.stage (cfg2.slots t 6)
abbrev hs2_6 (t : Fin cfg2.N) : (ms2_6 t).IsWhole := hstage2_6 ((cfg2.slots t 6).cast nbuf2_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) :
    Σ' (L3 : List (View.Piece (Elt F) S1x256x5 .f32)), Σ' (L4 : List (View.Piece (Elt F) S1x256x1 .f32)), Σ' (L5 : List (View.Piece (Elt F) S1x256x4 .f32)), { L6 : List (View.Piece (Elt F) S1x256x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2__gather_body i arg1 harg1 arg2 harg2 arg3 harg3 arg4 harg4 arg5 harg5 arg6 harg6 arg7 harg7) K } := by
  refine ⟨?_, ?_, ?_, ?_, fun E K => ?run⟩
  case run =>
    simp only [cc2__gather_body_eq_skeleton]; unfold cc2__gather_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

/-- The run's pieces for output 3 are of SEVERAL sizes (2 stores of `S1x256x1`, `S1x256x4`): cut into blocks of `![1, 256, 1]` they tile its block (checked by evaluation: Lib/Ring.lean `Piece.tiledBy`), so they cover it. -/
theorem cover2_A_3 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) (y : S1x256x5.Idx) :
    ∃ pc ∈ (kernelRun2_A c i arg1 harg1 arg2 harg2 arg3 harg3 arg4 harg4 arg5 harg5 arg6 harg6 arg7 harg7 x0 x1 x2).1, y ∈ pc.1.set :=
  View.cover_of_tiledBy (kernelRun2_A c i arg1 harg1 arg2 harg2 arg3 harg3 arg4 harg4 arg5 harg5 arg6 harg6 arg7 harg7 x0 x1 x2).1 ![1, 256, 1] (by sl_kernel_rfl) y

/-- What the run leaves in output 3's staging buffer: its pieces read back over junk. -/
def out2_A_3 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) : Vec F S1x256x5 .f32 :=
  VO2_3.read (Elt F) (VO2_3.writes (Elt F) VO2_3.junk (kernelRun2_A c i arg1 harg1 arg2 harg2 arg3 harg3 arg4 harg4 arg5 harg5 arg6 harg6 arg7 harg7 x0 x1 x2).1)

/-- The run's pieces for output 4 tile its block (1 store of `S1x256x1`, checked by evaluation: Lib/Ring.lean `Piece.tiledL`, linear in the pieces, through a loop's `@[irreducible]` trip theorem too), so they cover it. -/
theorem cover2_A_4 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) (y : S1x256x1.Idx) :
    ∃ pc ∈ (kernelRun2_A c i arg1 harg1 arg2 harg2 arg3 harg3 arg4 harg4 arg5 harg5 arg6 harg6 arg7 harg7 x0 x1 x2).2.1, y ∈ pc.1.set :=
  View.cover_of_tiledL (kernelRun2_A c i arg1 harg1 arg2 harg2 arg3 harg3 arg4 harg4 arg5 harg5 arg6 harg6 arg7 harg7 x0 x1 x2).2.1 S1x256x1.size (by sl_kernel_rfl) y

/-- What the run leaves in output 4's staging buffer: its pieces read back over junk. -/
def out2_A_4 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) : Vec F S1x256x1 .f32 :=
  VO2_4.read (Elt F) (VO2_4.writes (Elt F) VO2_4.junk (kernelRun2_A c i arg1 harg1 arg2 harg2 arg3 harg3 arg4 harg4 arg5 harg5 arg6 harg6 arg7 harg7 x0 x1 x2).2.1)

/-- The run's pieces for output 5 tile its block (4 stores of `S1x256x1`, checked by evaluation: Lib/Ring.lean `Piece.tiledL`, linear in the pieces, through a loop's `@[irreducible]` trip theorem too), so they cover it. -/
theorem cover2_A_5 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) (y : S1x256x4.Idx) :
    ∃ pc ∈ (kernelRun2_A c i arg1 harg1 arg2 harg2 arg3 harg3 arg4 harg4 arg5 harg5 arg6 harg6 arg7 harg7 x0 x1 x2).2.2.1, y ∈ pc.1.set :=
  View.cover_of_tiledL (kernelRun2_A c i arg1 harg1 arg2 harg2 arg3 harg3 arg4 harg4 arg5 harg5 arg6 harg6 arg7 harg7 x0 x1 x2).2.2.1 S1x256x1.size (by sl_kernel_rfl) y

/-- What the run leaves in output 5's staging buffer: its pieces read back over junk. -/
def out2_A_5 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) : Vec F S1x256x4 .f32 :=
  VO2_5.read (Elt F) (VO2_5.writes (Elt F) VO2_5.junk (kernelRun2_A c i arg1 harg1 arg2 harg2 arg3 harg3 arg4 harg4 arg5 harg5 arg6 harg6 arg7 harg7 x0 x1 x2).2.2.1)

/-- The run's pieces for output 6 tile its block (4 stores of `S1x256x1`, checked by evaluation: Lib/Ring.lean `Piece.tiledL`, linear in the pieces, through a loop's `@[irreducible]` trip theorem too), so they cover it. -/
theorem cover2_A_6 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) (y : S1x256x4.Idx) :
    ∃ pc ∈ (kernelRun2_A c i arg1 harg1 arg2 harg2 arg3 harg3 arg4 harg4 arg5 harg5 arg6 harg6 arg7 harg7 x0 x1 x2).2.2.2.1, y ∈ pc.1.set :=
  View.cover_of_tiledL (kernelRun2_A c i arg1 harg1 arg2 harg2 arg3 harg3 arg4 harg4 arg5 harg5 arg6 harg6 arg7 harg7 x0 x1 x2).2.2.2.1 S1x256x1.size (by sl_kernel_rfl) y

/-- What the run leaves in output 6's staging buffer: its pieces read back over junk. -/
def out2_A_6 (c : Dev nD) (i : grid2.Coords) (arg1 : Memref sig .tc .vmem S1x1x5120 .i32) (harg1 : arg1.IsWhole) (arg2 : Memref sig .tc .vmem S1x1x5120 .i32) (harg2 : arg2.IsWhole) (arg3 : Memref sig .tc .vmem S1x5120x10 .f32) (harg3 : arg3.IsWhole) (arg4 : Memref sig .tc .vmem S1x256x5 .f32) (harg4 : arg4.IsWhole) (arg5 : Memref sig .tc .vmem S1x256x1 .f32) (harg5 : arg5.IsWhole) (arg6 : Memref sig .tc .vmem S1x256x4 .f32) (harg6 : arg6.IsWhole) (arg7 : Memref sig .tc .vmem S1x256x4 .f32) (harg7 : arg7.IsWhole)
    (x0 : Vec F S1x1x5120 .i32) (x1 : Vec F S1x1x5120 .i32) (x2 : Vec F S1x5120x10 .f32) : Vec F S1x256x4 .f32 :=
  VO2_6.read (Elt F) (VO2_6.writes (Elt F) VO2_6.junk (kernelRun2_A c i arg1 harg1 arg2 harg2 arg3 harg3 arg4 harg4 arg5 harg5 arg6 harg6 arg7 harg7 x0 x1 x2).2.2.2.1)

/-! ## What the outputs hold after each point -/

/-- What the outputs' staging buffers hold after the body at point `t` (as a tuple, in window order): the run's contents at
    the point's memrefs and input blocks. -/
def outsAt2 (c : Dev nD) (t : Fin cfg2.N) : Vec F S1x256x5 .f32 × Vec F S1x256x1 .f32 × Vec F S1x256x4 .f32 × Vec F S1x256x4 .f32 :=
  (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t).1
    | ⟨4, _⟩ => (outsAt2 V c t).2.1
    | ⟨5, _⟩ => (outsAt2 V c t).2.2.1
    | ⟨6, _⟩ => (outsAt2 V c t).2.2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t).1 := by dsimp only [dat2]
theorem after2_4 (c : Dev nD) (t : Fin cfg2.N) : (dat2 V c).after 4 t = (outsAt2 V c t).2.1 := by dsimp only [dat2]
theorem after2_5 (c : Dev nD) (t : Fin cfg2.N) : (dat2 V c).after 5 t = (outsAt2 V c t).2.2.1 := by dsimp only [dat2]
theorem after2_6 (c : Dev nD) (t : Fin cfg2.N) : (dat2 V c).after 6 t = (outsAt2 V c t).2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold outsAt2
  unfold out2_A_3 out2_A_4 out2_A_5 out2_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ (iblk2 V c 0 t) (iblk2 V c 1 t) (iblk2 V c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_A_3 c _ _ _ _ _ _ _ _ _ _ _ _ _ _ _ _ _ _)
  isplitl [H4]
  · unfold owns; iexists _; isplitr
    swap; · iexact H4
    ipureintro; exact View.read_writes_of_cover _ _ _ _ _ (cover2_A_4 c _ _ _ _ _ _ _ _ _ _ _ _ _ _ _ _ _ _)
  isplitl [H5]
  · unfold owns; iexists _; isplitr
    swap; · iexact H5
    ipureintro; exact View.read_writes_of_cover _ _ _ _ _ (cover2_A_5 c _ _ _ _ _ _ _ _ _ _ _ _ _ _ _ _ _ _)
  unfold owns; iexists _; isplitr
  swap; · iexact H6
  ipureintro; exact View.read_writes_of_cover _ _ _ _ _ (cover2_A_6 c _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_cst, main_call0_v0, main_call0_v1, main_call0_v2, main_call0_v3, main_call0_v4, main_call0_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v7, main_call0_v8, main_call0_v9, main_call0_v10, main_call0_v11, main_call0_v12, main_call0_v13, main_call0_v14, main_call0_v15, main_call0_v16]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call0_v18, main_call0_v19, main_call0_v20, main_call0_v21, main_call0_v22, main_call0_v23]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_call0_cst_0, main_v0_1, main_call0_cst_1, main_v0_2, main_v0_3, main_call0_cst_2, main_v0_4, main_call0_cst_3, main_v0_5]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The program finishes: from any memory with zero counters every fair execution ends, without a fault, with every
    buffer of the module at its contents `W7` and every semaphore counter at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c b hb, funext fun g => hz g (.inr (no_unscoped g.2))⟩)

/-- The program finishes with its arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_uc main_arg0 (by decide))).trans (W7_main_arg0 m ρ c),
     (h.1 c _ (mem_uc main_arg1 (by decide))).trans (W7_main_arg1 m ρ c)⟩, h.2⟩) (ends m ρ)

end Cert.KernelIdeal.Gen

end
-- ==== Proof.Model.lean ====
/- The mathematics both programs are compared through, over extended reals: the overlap of a box with a ground-truth
   box, and one step of the assignment scan, which keeps the best overlap so far and the ground-truth row it came
   from. -/
module

public import Idealize.ShloMosaic.PureOps.Ideal.Laws
public import Idealize.ShloMosaic.Lib.Pointwise

@[expose] public section

noncomputable section

namespace Cert.Roi

open Idealize.ShloMosaic

/-- The literals of the programs. -/
abbrev one : EReal := Ideal.ofBits .f32 0x3F800000#32
abbrev zero : EReal := Ideal.ofBits .f32 0x00000000#32
abbrev half : EReal := Ideal.ofBits .f32 0x3F000000#32
abbrev negOne : EReal := Ideal.ofBits .f32 0xBF800000#32
abbrev negInf : EReal := Ideal.ofBits .f32 0xFF800000#32

/-- The area of a box with corners (x1, y1) and (x2, y2), both inclusive. -/
def area (x1 y1 x2 y2 : EReal) : EReal := (x2 - x1 + one) * (y2 - y1 + one)

/-- The overlap of a box of area `ar` with the box (a, b, c, d): the intersection over the union. -/
def overlap (x1 y1 x2 y2 ar a b c d : EReal) : EReal :=
  Ideal.div (max zero (min x2 c - max x1 a + one) * max zero (min y2 d - max y1 b + one))
    (ar + (c - a + one) * (d - b + one) - max zero (min x2 c - max x1 a + one) * max zero (min y2 d - max y1 b + one))

/-- Where the overlap `o` beats the best one so far `m` take `a`, else keep `b`. -/
def pick (o m a b : EReal) : EReal := Scalar.select (Ideal.cmp .ogt o m) a b

/-- The scan's state: the best overlap so far and the row (corners and label) it came from. -/
abbrev Best : Type := EReal × (Fin 5 → EReal)

/-- One step of the scan: the overlap `o` with the row `g`. -/
def step (o : EReal) (g : Fin 5 → EReal) (s : Best) : Best :=
  (pick o s.1 o s.1, fun k => pick o s.1 (g k) (s.2 k))

/-- The scan over all rows `G`, of a box with corners `r` and area `area r`. -/
def scan (r : Fin 4 → EReal) (G : Fin 20 → Fin 5 → EReal) : Best :=
  (List.finRange 20).foldl
    (fun s g => step (overlap (r 0) (r 1) (r 2) (r 3) (area (r 0) (r 1) (r 2) (r 3)) (G g 0) (G g 1) (G g 2) (G g 3)) (G g) s)
    (negOne, fun _ => zero)

/-- A bit made of two is set when both are. -/
theorem andi_eq_one : ∀ c d : BitVec 1, IntOp.andi c d = 1 ↔ c = 1 ∧ d = 1 := by decide

/-- A bit made of two is set when one of them is. -/
theorem ori_eq_one : ∀ c d : BitVec 1, IntOp.ori c d = 1 ↔ c = 1 ∨ d = 1 := by decide

/-- A choice by a bit is a choice by what the bit says. -/
theorem select_iff {α : Type} {c : BitVec 1} {p : Prop} [Decidable p] (h : c = 1 ↔ p) (a b : α) :
    Scalar.select c a b = if p then a else b := by
  by_cases hp : p
  · rw [if_pos hp, h.mpr hp]; rfl
  · rw [if_neg hp]; exact if_neg fun e => hp (h.mp e)

open Classical in
/-- The foreground score of a box whose best overlap is `m`: `m` where the box is real and `m` is at least a half. -/
def fgScore (real : Prop) (m : EReal) : EReal := if real ∧ half ≤ m then m else negInf

open Classical in
/-- The background score: `m` where the box is real and `m` lies in [0, 1/2). -/
def bgScore (real : Prop) (m : EReal) : EReal := if (real ∧ m < half) ∧ zero ≤ m then m else negInf

open Classical in
/-- One where the box is foreground, else zero. -/
def fgFlag (real : Prop) (m : EReal) : EReal := if real ∧ half ≤ m then 1 else 0

/-- The same, as the kernel chooses them by its masks. -/
theorem select_fg {c : BitVec 1} {p : Prop} {m : EReal} (h : c = 1 ↔ p ∧ half ≤ m) : Scalar.select c m negInf = fgScore p m := by
  classical
  exact (select_iff h _ _).trans (if_congr Iff.rfl rfl rfl)
theorem select_bg {c : BitVec 1} {p : Prop} {m : EReal} (h : c = 1 ↔ (p ∧ m < half) ∧ zero ≤ m) :
    Scalar.select c m negInf = bgScore p m := by
  classical
  exact (select_iff h _ _).trans (if_congr Iff.rfl rfl rfl)
theorem flag_fg {c : BitVec 1} {p : Prop} {m : EReal} (h : c = 1 ↔ p ∧ half ≤ m) :
    (FloatOps.sitofp .f32 (BitVec.setWidth 32 c) : Ideal .f32) = fgFlag p m := by
  unfold fgFlag
  by_cases hp : p ∧ half ≤ m
  · rw [if_pos hp, h.mpr hp]
    show (((BitVec.setWidth 32 (1 : BitVec 1)).toInt : ℝ) : EReal) = 1
    rw [show (BitVec.setWidth 32 (1 : BitVec 1)).toInt = 1 by decide]
    norm_num
  · rw [if_neg hp]
    have hc : c = 0 := (bit_ne_one_iff c).mp fun e => hp (h.mp e)
    rw [hc]
    show (((BitVec.setWidth 32 (0 : BitVec 1)).toInt : ℝ) : EReal) = 0
    rw [show (BitVec.setWidth 32 (0 : BitVec 1)).toInt = 0 by decide]
    norm_num

/-- What the first kernel leaves for a box: the two scores, the assigned row, the foreground flag. -/
def rowOut (real : Prop) (s : Best) : Fin 8 → EReal :=
  ![fgScore real s.1, bgScore real s.1, s.2 0, s.2 1, s.2 2, s.2 3, s.2 4, fgFlag real s.1]

open Classical in
/-- How many entries of `S` stand above a value `m` at position `p`: are larger, or the same and earlier. -/
def count {n : ℕ} (S : Fin n → EReal) (m : EReal) (p : ℕ) : ℕ := (Finset.univ.filter fun j => m < S j ∨ S j = m ∧ (j : ℕ) < p).card

end Cert.Roi

end
-- ==== Proof.IouFold.lean ====
/- The first kernel's body: the scan over the twenty ground-truth rows. `bodyStep` is one round of the body's loop, on
   whole blocks of boxes; at each box it is one step of the scan. `after n` are the body's own values after `n` rows, and
   they are one round from those before. -/
module

public import proofs.«01_k».proof.Proof.IdealFrame
public import proofs.«01_k».proof.Proof.Model
public import Idealize.ShloMosaic.Lib.Pointwise
public import Idealize.ShloMosaic.Lib.WholeRead

@[expose] public section

set_option maxRecDepth 16384

noncomputable section

namespace Cert.Roi.Iou

open Idealize.ShloMosaic Idealize.ShloMosaic.TcCoe Cert.KernelIdeal Cert.KernelIdeal.Gen Cert.Roi
open Cert.KernelIdeal.Gen.kernelRun0_A

variable (c : Dev nD) (arg1 : Memref sig .tc .vmem S1x4x40x128 .f32) (harg1 : arg1.IsWhole)
  (arg2 : Memref sig .tc .smem S1x20x5 .f32) (harg2 : arg2.IsWhole)
  (x0 : Vec Ideal S1x4x40x128 .f32) (x1 : Vec Ideal S1x20x5 .f32) (y : S40x128.Idx)

/-- Every single cell of the ground-truth block lies in it. -/
theorem cell_inb (g : Fin 20) (k : Fin 5) : ∀ a, (![0, (g : ℕ), (k : ℕ)] : Fin 3 → ℕ) a + S1x1x1.size a ≤ S1x20x5.size a := by
  intro a
  have hg := g.2
  have hk := k.2
  match a with
  | ⟨0, _⟩ => exact Nat.le_refl 1
  | ⟨1, _⟩ => show (g : ℕ) + 1 ≤ 20; omega
  | ⟨2, _⟩ => show (k : ℕ) + 1 ≤ 5; omega

/-- Entry `k` of ground-truth row `g`, as the body loads it. -/
def gt (g : Fin 20) (k : Fin 5) : EReal :=
  View.readAt (Elt Ideal) arg2.view (Rect.unit (s := S1x20x5) ![0, (g : ℕ), (k : ℕ)] S1x1x1.size (cell_inb g k)).toLoadRect (harg2.unread x1)
    (Shape.Idx.first (by decide : 0 < S1x1x1.numel))

/-- The load reads the block's entry. -/
theorem gt_eq (g : Fin 20) (k : Fin 5) : gt arg2 harg2 x1 g k = x1 (ix3 0 g k) := by
  unfold gt
  rw [Memref.IsWhole.readAt_unread]
  congr 1
  funext a
  match a with
  | ⟨0, _⟩ => rfl
  | ⟨1, _⟩ => exact Fin.ext (show (g : ℕ) + 1 * 0 = g by omega)
  | ⟨2, _⟩ => exact Fin.ext (show (k : ℕ) + 1 * 0 = k by omega)

/-- A block of boxes: the four corners and the area; the six values that are kept for every box. -/
abbrev Block : Type := FVec Ideal S40x128 .f32

/-- The overlaps of a block of boxes with one ground-truth row. -/
def bodyOv (X : Fin 5 → Block) (g : Fin 5 → Ideal .f32) : Block :=
  let w : Block := maximumf (broadcast S40x128 (Scalar.ofBits .f32 0x00000000#32)) (addf (subf (minimumf (X 2) (broadcast S40x128 (g 2))) (maximumf (X 0) (broadcast S40x128 (g 0)))) (broadcast S40x128 (Scalar.ofBits .f32 0x3F800000#32)))
  let h : Block := maximumf (broadcast S40x128 (Scalar.ofBits .f32 0x00000000#32)) (addf (subf (minimumf (X 3) (broadcast S40x128 (g 3))) (maximumf (X 1) (broadcast S40x128 (g 1)))) (broadcast S40x128 (Scalar.ofBits .f32 0x3F800000#32)))
  divf (mulf w h) (subf (addf (X 4) (broadcast S40x128 (Scalar.mulf (Scalar.addf (Scalar.subf (g 2) (g 0)) (Scalar.ofBits .f32 0x3F800000#32)) (Scalar.addf (Scalar.subf (g 3) (g 1)) (Scalar.ofBits .f32 0x3F800000#32))))) (mulf w h))

/-- The six values kept for every box of the block: the best overlap so far, and the row it was with. -/
structure Kept where
  ov : Block
  g0 : Block
  g1 : Block
  g2 : Block
  g3 : Block
  g4 : Block

/-- One round of the body's loop: where the overlap is larger than the best one so far, it and the row are kept. -/
def bodyStep (X : Fin 5 → Block) (g : Fin 5 → Ideal .f32) (s : Kept) : Kept where
  ov := select (cmpf .ogt (bodyOv X g) s.ov) (bodyOv X g) s.ov
  g0 := select (cmpf .ogt (bodyOv X g) s.ov) (broadcast S40x128 (g 0)) s.g0
  g1 := select (cmpf .ogt (bodyOv X g) s.ov) (broadcast S40x128 (g 1)) s.g1
  g2 := select (cmpf .ogt (bodyOv X g) s.ov) (broadcast S40x128 (g 2)) s.g2
  g3 := select (cmpf .ogt (bodyOv X g) s.ov) (broadcast S40x128 (g 3)) s.g3
  g4 := select (cmpf .ogt (bodyOv X g) s.ov) (broadcast S40x128 (g 4)) s.g4

/-- The kept values at one box, as a state of the scan. -/
def Kept.at (s : Kept) (y : S40x128.Idx) : Best := (s.ov y, ![s.g0 y, s.g1 y, s.g2 y, s.g3 y, s.g4 y])

/-- At one box a round is a step of the scan. -/
theorem bodyStep_at (X : Fin 5 → Block) (g : Fin 5 → EReal) (s : Kept) (y : S40x128.Idx) :
    (bodyStep X g s).at y = step (overlap (X 0 y) (X 1 y) (X 2 y) (X 3 y) (X 4 y) (g 0) (g 1) (g 2) (g 3)) g (s.at y) := by
  refine Prod.ext rfl (funext fun k => ?_)
  fin_cases k <;> rfl

/-- The block of boxes that the body reads. -/
def blocks : Fin 5 → Block :=
  ![sl.r_5 c arg1 harg1 x0, sl.r_6 c arg1 harg1 x0, sl.r_7 c arg1 harg1 x0, sl.r_8 c arg1 harg1 x0, sl.r_9 c arg1 harg1 x0]

/-- The values the body keeps after `n` of the twenty rows: none before the first row, and then its own. -/
def after : ℕ → Kept
  | 0 => ⟨broadcast S40x128 (Scalar.ofBits .f32 0xBF800000#32), broadcast S40x128 (Scalar.ofBits .f32 0x00000000#32),
      broadcast S40x128 (Scalar.ofBits .f32 0x00000000#32), broadcast S40x128 (Scalar.ofBits .f32 0x00000000#32),
      broadcast S40x128 (Scalar.ofBits .f32 0x00000000#32), broadcast S40x128 (Scalar.ofBits .f32 0x00000000#32)⟩
  | 1 => ⟨sl.r_15 c arg1 harg1 arg2 harg2 x0 x1, sl.r_16 c arg1 harg1 arg2 harg2 x0 x1, sl.r_17 c arg1 harg1 arg2 harg2 x0 x1,
      sl.r_18 c arg1 harg1 arg2 harg2 x0 x1, sl.r_19 c arg1 harg1 arg2 harg2 x0 x1, sl.r_20 c arg1 harg1 arg2 harg2 x0 x1⟩
  | 2 => ⟨sl.r_24 c arg1 harg1 arg2 harg2 x0 x1, sl.r_25 c arg1 harg1 arg2 harg2 x0 x1, sl.r_26 c arg1 harg1 arg2 harg2 x0 x1,
      sl.r_27 c arg1 harg1 arg2 harg2 x0 x1, sl.r_28 c arg1 harg1 arg2 harg2 x0 x1, sl.r_29 c arg1 harg1 arg2 harg2 x0 x1⟩
  | 3 => ⟨sl.r_34 c arg1 harg1 arg2 harg2 x0 x1, sl.r_35 c arg1 harg1 arg2 harg2 x0 x1, sl.r_36 c arg1 harg1 arg2 harg2 x0 x1,
      sl.r_37 c arg1 harg1 arg2 harg2 x0 x1, sl.r_38 c arg1 harg1 arg2 harg2 x0 x1, sl.r_39 c arg1 harg1 arg2 harg2 x0 x1⟩
  | 4 => ⟨sl.r_45 c arg1 harg1 arg2 harg2 x0 x1, sl.r_46 c arg1 harg1 arg2 harg2 x0 x1, sl.r_47 c arg1 harg1 arg2 harg2 x0 x1,
      sl.r_48 c arg1 harg1 arg2 harg2 x0 x1, sl.r_49 c arg1 harg1 arg2 harg2 x0 x1, sl.r_55 c arg1 harg1 arg2 harg2 x0 x1⟩
  | 5 => ⟨sl.r_57 c arg1 harg1 arg2 harg2 x0 x1, sl.r_58 c arg1 harg1 arg2 harg2 x0 x1, sl.r_64 c arg1 harg1 arg2 harg2 x0 x1,
      sl.r_65 c arg1 harg1 arg2 harg2 x0 x1, sl.r_66 c arg1 harg1 arg2 harg2 x0 x1, sl.r_67 c arg1 harg1 arg2 harg2 x0 x1⟩
  | 6 => ⟨sl.r_75 c arg1 harg1 arg2 harg2 x0 x1, sl.r_76 c arg1 harg1 arg2 harg2 x0 x1, sl.r_77 c arg1 harg1 arg2 harg2 x0 x1,
      sl.r_78 c arg1 harg1 arg2 harg2 x0 x1, sl.r_79 c arg1 harg1 arg2 harg2 x0 x1, sl.r_80 c arg1 harg1 arg2 harg2 x0 x1⟩
  | 7 => ⟨sl.r_89 c arg1 harg1 arg2 harg2 x0 x1, sl.r_90 c arg1 harg1 arg2 harg2 x0 x1, sl.r_91 c arg1 harg1 arg2 harg2 x0 x1,
      sl.r_92 c arg1 harg1 arg2 harg2 x0 x1, sl.r_93 c arg1 harg1 arg2 harg2 x0 x1, sl.r_94 c arg1 harg1 arg2 harg2 x0 x1⟩
  | 8 => ⟨sl.r_103 c arg1 harg1 arg2 harg2 x0 x1, sl.r_104 c arg1 harg1 arg2 harg2 x0 x1, sl.r_105 c arg1 harg1 arg2 harg2 x0 x1,
      sl.r_106 c arg1 harg1 arg2 harg2 x0 x1, sl.r_107 c arg1 harg1 arg2 harg2 x0 x1, sl.r_108 c arg1 harg1 arg2 harg2 x0 x1⟩
  | 9 => ⟨sl.r_116 c arg1 harg1 arg2 harg2 x0 x1, sl.r_117 c arg1 harg1 arg2 harg2 x0 x1, sl.r_118 c arg1 harg1 arg2 harg2 x0 x1,
      sl.r_119 c arg1 harg1 arg2 harg2 x0 x1, sl.r_120 c arg1 harg1 arg2 harg2 x0 x1, sl.r_121 c arg1 harg1 arg2 harg2 x0 x1⟩
  | 10 => ⟨sl.r_129 c arg1 harg1 arg2 harg2 x0 x1, sl.r_130 c arg1 harg1 arg2 harg2 x0 x1, sl.r_131 c arg1 harg1 arg2 harg2 x0 x1,
      sl.r_132 c arg1 harg1 arg2 harg2 x0 x1, sl.r_133 c arg1 harg1 arg2 harg2 x0 x1, sl.r_134 c arg1 harg1 arg2 harg2 x0 x1⟩
  | 11 => ⟨sl.r_140 c arg1 harg1 arg2 harg2 x0 x1, sl.r_141 c arg1 harg1 arg2 harg2 x0 x1, sl.r_142 c arg1 harg1 arg2 harg2 x0 x1,
      sl.r_143 c arg1 harg1 arg2 harg2 x0 x1, sl.r_144 c arg1 harg1 arg2 harg2 x0 x1, sl.r_145 c arg1 harg1 arg2 harg2 x0 x1⟩
  | 12 => ⟨sl.r_149 c arg1 harg1 arg2 harg2 x0 x1, sl.r_150 c arg1 harg1 arg2 harg2 x0 x1, sl.r_151 c arg1 harg1 arg2 harg2 x0 x1,
      sl.r_152 c arg1 harg1 arg2 harg2 x0 x1, sl.r_153 c arg1 harg1 arg2 harg2 x0 x1, sl.r_154 c arg1 harg1 arg2 harg2 x0 x1⟩
  | 13 => ⟨sl.r_159 c arg1 harg1 arg2 harg2 x0 x1, sl.r_160 c arg1 harg1 arg2 harg2 x0 x1, sl.r_161 c arg1 harg1 arg2 harg2 x0 x1,
      sl.r_162 c arg1 harg1 arg2 harg2 x0 x1, sl.r_163 c arg1 harg1 arg2 harg2 x0 x1, sl.r_164 c arg1 harg1 arg2 harg2 x0 x1⟩
  | 14 => ⟨sl.r_170 c arg1 harg1 arg2 harg2 x0 x1, sl.r_171 c arg1 harg1 arg2 harg2 x0 x1, sl.r_172 c arg1 harg1 arg2 harg2 x0 x1,
      sl.r_173 c arg1 harg1 arg2 harg2 x0 x1, sl.r_174 c arg1 harg1 arg2 harg2 x0 x1, sl.r_180 c arg1 harg1 arg2 harg2 x0 x1⟩
  | 15 => ⟨sl.r_182 c arg1 harg1 arg2 harg2 x0 x1, sl.r_183 c arg1 harg1 arg2 harg2 x0 x1, sl.r_189 c arg1 harg1 arg2 harg2 x0 x1,
      sl.r_190 c arg1 harg1 arg2 harg2 x0 x1, sl.r_191 c arg1 harg1 arg2 harg2 x0 x1, sl.r_192 c arg1 harg1 arg2 harg2 x0 x1⟩
  | 16 => ⟨sl.r_200 c arg1 harg1 arg2 harg2 x0 x1, sl.r_201 c arg1 harg1 arg2 harg2 x0 x1, sl.r_202 c arg1 harg1 arg2 harg2 x0 x1,
      sl.r_203 c arg1 harg1 arg2 harg2 x0 x1, sl.r_204 c arg1 harg1 arg2 harg2 x0 x1, sl.r_205 c arg1 harg1 arg2 harg2 x0 x1⟩
  | 17 => ⟨sl.r_214 c arg1 harg1 arg2 harg2 x0 x1, sl.r_215 c arg1 harg1 arg2 harg2 x0 x1, sl.r_216 c arg1 harg1 arg2 harg2 x0 x1,
      sl.r_217 c arg1 harg1 arg2 harg2 x0 x1, sl.r_218 c arg1 harg1 arg2 harg2 x0 x1, sl.r_219 c arg1 harg1 arg2 harg2 x0 x1⟩
  | 18 => ⟨sl.r_228 c arg1 harg1 arg2 harg2 x0 x1, sl.r_229 c arg1 harg1 arg2 harg2 x0 x1, sl.r_230 c arg1 harg1 arg2 harg2 x0 x1,
      sl.r_231 c arg1 harg1 arg2 harg2 x0 x1, sl.r_232 c arg1 harg1 arg2 harg2 x0 x1, sl.r_233 c arg1 harg1 arg2 harg2 x0 x1⟩
  | 19 => ⟨sl.r_241 c arg1 harg1 arg2 harg2 x0 x1, sl.r_242 c arg1 harg1 arg2 harg2 x0 x1, sl.r_243 c arg1 harg1 arg2 harg2 x0 x1,
      sl.r_244 c arg1 harg1 arg2 harg2 x0 x1, sl.r_245 c arg1 harg1 arg2 harg2 x0 x1, sl.r_246 c arg1 harg1 arg2 harg2 x0 x1⟩
  | 20 => ⟨sl.r_249 c arg1 harg1 arg2 harg2 x0 x1, sl.r_250 c arg1 harg1 arg2 harg2 x0 x1, sl.r_251 c arg1 harg1 arg2 harg2 x0 x1,
      sl.r_252 c arg1 harg1 arg2 harg2 x0 x1, sl.r_253 c arg1 harg1 arg2 harg2 x0 x1, sl.r_254 c arg1 harg1 arg2 harg2 x0 x1⟩
  | _ => ⟨broadcast S40x128 (Scalar.ofBits .f32 0x00000000#32), broadcast S40x128 (Scalar.ofBits .f32 0x00000000#32), broadcast S40x128 (Scalar.ofBits .f32 0x00000000#32), broadcast S40x128 (Scalar.ofBits .f32 0x00000000#32), broadcast S40x128 (Scalar.ofBits .f32 0x00000000#32), broadcast S40x128 (Scalar.ofBits .f32 0x00000000#32)⟩

set_option maxHeartbeats 20000000 in
/-- What is kept after a row is one round from what was kept before it. -/
theorem after_succ (n : ℕ) (h : n < 20) :
    after c arg1 harg1 arg2 harg2 x0 x1 (n + 1) = bodyStep (blocks c arg1 harg1 x0) (gt arg2 harg2 x1 ⟨n, h⟩) (after c arg1 harg1 arg2 harg2 x0 x1 n) := by
  interval_cases n <;>
    (show Kept.mk _ _ _ _ _ _ = bodyStep _ _ (Kept.mk _ _ _ _ _ _)
     unfold bodyStep
     dsimp only
     exact rfl)

/-- At each box the values after `n` rows are the scan of those rows. -/
theorem after_scan (n : ℕ) (h : n ≤ 20) : (after c arg1 harg1 arg2 harg2 x0 x1 n).at y = ((List.finRange 20).take n).foldl
    (fun s g => step (overlap (sl.r_5 c arg1 harg1 x0 y) (sl.r_6 c arg1 harg1 x0 y) (sl.r_7 c arg1 harg1 x0 y) (sl.r_8 c arg1 harg1 x0 y)
      (sl.r_9 c arg1 harg1 x0 y) (gt arg2 harg2 x1 g 0) (gt arg2 harg2 x1 g 1) (gt arg2 harg2 x1 g 2) (gt arg2 harg2 x1 g 3)) (gt arg2 harg2 x1 g) s)
    (negOne, fun _ => zero) := by
  induction n with
  | zero => exact Prod.ext rfl (funext fun k => by fin_cases k <;> rfl)
  | succ n ih =>
    have e : (List.finRange 20).take (n + 1) = (List.finRange 20).take n ++ [⟨n, h⟩] := by
      rw [List.take_succ_eq_append_getElem (by simpa using h), List.getElem_finRange]
      rfl
    rw [after_succ _ _ _ _ _ _ _ n h, bodyStep_at, ih (by omega), e, List.foldl_append]
    rfl

/-- At each box the body's last values are the whole scan's. -/
theorem last_scan : (after c arg1 harg1 arg2 harg2 x0 x1 20).at y = (List.finRange 20).foldl
    (fun s g => step (overlap (sl.r_5 c arg1 harg1 x0 y) (sl.r_6 c arg1 harg1 x0 y) (sl.r_7 c arg1 harg1 x0 y) (sl.r_8 c arg1 harg1 x0 y)
      (sl.r_9 c arg1 harg1 x0 y) (gt arg2 harg2 x1 g 0) (gt arg2 harg2 x1 g 1) (gt arg2 harg2 x1 g 2) (gt arg2 harg2 x1 g 3)) (gt arg2 harg2 x1 g) s)
    (negOne, fun _ => zero) := by
  rw [after_scan _ _ _ _ _ _ _ y 20 le_rfl, List.take_of_length_le (by simp)]

end Cert.Roi.Iou

end
-- ==== Proof.IouBlock.lean ====
/- What the first kernel's body leaves in its output block, entry by entry: at channel `ch` of the box at row `r`, lane
   `l` of the block, the entry `rowOut` of that box's scan. -/
module

public import proofs.«01_k».proof.Proof.IouFold
public import Idealize.ShloMosaic.Lib.WordCmp

@[expose] public section

set_option maxRecDepth 16384

noncomputable section

namespace Cert.Roi.Iou

open Idealize.ShloMosaic Idealize.ShloMosaic.TcCoe Cert.KernelIdeal Cert.KernelIdeal.Gen Cert.Roi
open Cert.KernelIdeal.Gen.kernelRun0_A

/-- A write to another place along some axis does not matter at `y`. -/
theorem canon_skip {s : Shape} {e : EltTy} {off size : Fin s.rank → ℕ} (inb : ∀ a, off a + size a ≤ s.size a)
    (w : (Rect.unit off size inb).shape.Idx → Elt Ideal e) (L : List (View.Piece (Elt Ideal) s e)) {y : s.Idx} (a : Fin s.rank)
    (h : (y a : ℕ) < off a ∨ off a + size a ≤ (y a : ℕ)) :
    View.canon (⟨Rect.unit off size inb, w⟩ :: L) y = View.canon L y := by
  refine View.canon_cons_of_not_mem _ L fun hm => ?_
  have := (Rect.mem_set_unit (inb := inb)).mp hm a
  omega

/-- A write at `y`'s own place is what is read there. -/
theorem canon_hit {s : Shape} {e : EltTy} {off size : Fin s.rank → ℕ} (inb : ∀ a, off a + size a ≤ s.size a)
    (w : (Rect.unit off size inb).shape.Idx → Elt Ideal e) (L : List (View.Piece (Elt Ideal) s e)) {y : s.Idx}
    (x : (Rect.unit off size inb).shape.Idx) (h : ∀ a, (y a : ℕ) = off a + (x a : ℕ)) :
    View.canon (⟨Rect.unit off size inb, w⟩ :: L) y = w x := by
  have e : y = (Rect.unit off size inb).emb x := by
    funext a
    apply Fin.ext
    have := h a
    show (y a : ℕ) = off a + 1 * (x a : ℕ)
    omega
  rw [e]
  exact View.canon_cons_emb _ w L x

variable (c : Dev nD) (i : grid0.Coords) (arg1 : Memref sig .tc .vmem S1x4x40x128 .f32) (harg1 : arg1.IsWhole)
  (arg2 : Memref sig .tc .smem S1x20x5 .f32) (harg2 : arg2.IsWhole) (arg3 : Memref sig .tc .vmem S1x8x40x128 .f32) (harg3 : arg3.IsWhole)
  (x0 : Vec Ideal S1x4x40x128 .f32) (x1 : Vec Ideal S1x20x5 .f32) (r : Fin 40) (l : Fin 128)

/-- The scan of the box at row `r`, lane `l` of the block. -/
def best : Best := scan (fun k => x0 (ix4 0 k r l)) (fun g k => x1 (ix3 0 g k))

/-- Corner `k` of the box, as the body reads it. -/
theorem read_corner (k : Fin 4) (inb : ∀ a, (![0, (k : ℕ), 0, 0] : Fin 4 → ℕ) a + S1x1x40x128.size a ≤ S1x4x40x128.size a) :
    View.readAt (Elt Ideal) arg1.view (Rect.unit (s := S1x4x40x128) ![0, (k : ℕ), 0, 0] S1x1x40x128.size inb).toLoadRect (harg1.unread x0)
      (ix4 0 0 r l) = x0 (ix4 0 k r l) := by
  rw [Memref.IsWhole.readAt_unread]
  congr 1
  funext a
  match a with
  | ⟨0, _⟩ => exact Fin.ext rfl
  | ⟨1, _⟩ => exact Fin.ext (show (k : ℕ) + 1 * 0 = k by omega)
  | ⟨2, _⟩ => exact Fin.ext (show 0 + 1 * (r : ℕ) = r by omega)
  | ⟨3, _⟩ => exact Fin.ext (show 0 + 1 * (l : ℕ) = l by omega)

/-- The four corners the body works with. -/
theorem corner0 : sl.r_5 c arg1 harg1 x0 (ix2 r l) = x0 (ix4 0 0 r l) := by
  unfold sl.r_5
  pointwise [k0_pay2]
  exact read_corner arg1 harg1 x0 r l 0 _
theorem corner1 : sl.r_6 c arg1 harg1 x0 (ix2 r l) = x0 (ix4 0 1 r l) := by
  unfold sl.r_6
  pointwise [k0_pay3]
  exact read_corner arg1 harg1 x0 r l 1 _
theorem corner2 : sl.r_7 c arg1 harg1 x0 (ix2 r l) = x0 (ix4 0 2 r l) := by
  unfold sl.r_7
  pointwise [k0_pay4]
  exact read_corner arg1 harg1 x0 r l 2 _
theorem corner3 : sl.r_8 c arg1 harg1 x0 (ix2 r l) = x0 (ix4 0 3 r l) := by
  unfold sl.r_8
  pointwise [k0_pay5]
  exact read_corner arg1 harg1 x0 r l 3 _

/-- The area the body computes. -/
theorem area_eq : sl.r_9 c arg1 harg1 x0 (ix2 r l) = area (x0 (ix4 0 0 r l)) (x0 (ix4 0 1 r l)) (x0 (ix4 0 2 r l)) (x0 (ix4 0 3 r l)) := by
  rw [← corner0 c arg1 harg1 x0 r l, ← corner1 c arg1 harg1 x0 r l, ← corner2 c arg1 harg1 x0 r l, ← corner3 c arg1 harg1 x0 r l]
  rfl

/-- The body's last state is the scan's. -/
theorem last_eq : (after c arg1 harg1 arg2 harg2 x0 x1 20).at (ix2 r l) = best x0 x1 r l := by
  rw [last_scan]
  unfold best scan
  simp only [corner0, corner1, corner2, corner3, area_eq]
  congr 1
  funext s g
  have e : gt arg2 harg2 x1 g = fun k => x1 (ix3 0 g k) := funext fun k => gt_eq arg2 harg2 x1 g k
  rw [e]

/-- Its overlap, and the corners and label of its row. -/
theorem last0 : sl.r_249 c arg1 harg1 arg2 harg2 x0 x1 (ix2 r l) = (best x0 x1 r l).1 :=
  congrArg Prod.fst (last_eq c arg1 harg1 arg2 harg2 x0 x1 r l)
theorem last1 : sl.r_250 c arg1 harg1 arg2 harg2 x0 x1 (ix2 r l) = (best x0 x1 r l).2 0 :=
  congrFun (congrArg Prod.snd (last_eq c arg1 harg1 arg2 harg2 x0 x1 r l)) 0
theorem last2 : sl.r_251 c arg1 harg1 arg2 harg2 x0 x1 (ix2 r l) = (best x0 x1 r l).2 1 :=
  congrFun (congrArg Prod.snd (last_eq c arg1 harg1 arg2 harg2 x0 x1 r l)) 1
theorem last3 : sl.r_252 c arg1 harg1 arg2 harg2 x0 x1 (ix2 r l) = (best x0 x1 r l).2 2 :=
  congrFun (congrArg Prod.snd (last_eq c arg1 harg1 arg2 harg2 x0 x1 r l)) 2
theorem last4 : sl.r_253 c arg1 harg1 arg2 harg2 x0 x1 (ix2 r l) = (best x0 x1 r l).2 3 :=
  congrFun (congrArg Prod.snd (last_eq c arg1 harg1 arg2 harg2 x0 x1 r l)) 3
theorem last5 : sl.r_254 c arg1 harg1 arg2 harg2 x0 x1 (ix2 r l) = (best x0 x1 r l).2 4 :=
  congrFun (congrArg Prod.snd (last_eq c arg1 harg1 arg2 harg2 x0 x1 r l)) 4

/-- The box at row `r`, lane `l` is a real one. -/
abbrev real : Prop := (r : ℕ) * 128 + l < 5020

theorem valid_eq_one : k0_pay197 (ix2 r l) = 1 ↔ real r l := by
  have hr := r.2
  have hl := l.2
  pointwise [k0_pay197]
  show Scalar.cmpi .slt (IntOp.addi (IntOp.muli (BitVec.ofNat 32 r) (BitVec.ofNat 32 128)) (BitVec.ofNat 32 l)) (BitVec.ofNat 32 5020) = 1#1 ↔ _
  rw [WordCmp.muli_ofNat, WordCmp.addi_ofNat]
  exact WordCmp.cmpi_slt_ofNat_eq_one_iff (by omega) (by omega)

/-- The foreground mask and the background mask. -/
theorem fg_eq_one : sl.r_255 c arg1 harg1 arg2 harg2 x0 x1 (ix2 r l) = 1 ↔ real r l ∧ half ≤ (best x0 x1 r l).1 := by
  rw [← last0 c arg1 harg1 arg2 harg2 x0 x1 r l, ← valid_eq_one, ← Ideal.cmp_oge_eq_one]
  exact andi_eq_one _ _
theorem bg_eq_one : sl.r_256 c arg1 harg1 arg2 harg2 x0 x1 (ix2 r l) = 1 ↔ (real r l ∧ (best x0 x1 r l).1 < half) ∧ zero ≤ (best x0 x1 r l).1 := by
  rw [← last0 c arg1 harg1 arg2 harg2 x0 x1 r l, ← valid_eq_one, ← Ideal.cmp_oge_eq_one, ← Ideal.cmp_olt_eq_one]
  exact (andi_eq_one _ _).trans (and_congr_left fun _ => andi_eq_one _ _)

/-- A write to a later channel does not matter at channel `ch`, and a write to channel `ch` is what is read there. -/
theorem out_skip {n : ℕ} (ch : Fin 8) (inb : ∀ a, (![0, n, 0, 0] : Fin 4 → ℕ) a + (![1, 1, 40, 128] : Fin 4 → ℕ) a ≤ S1x8x40x128.size a)
    (w : (Rect.unit (s := S1x8x40x128) ![0, n, 0, 0] ![1, 1, 40, 128] inb).shape.Idx → Elt Ideal .f32)
    (L : List (View.Piece (Elt Ideal) S1x8x40x128 .f32)) (h : (ch : ℕ) < n) :
    View.canon (⟨Rect.unit (s := S1x8x40x128) ![0, n, 0, 0] ![1, 1, 40, 128] inb, w⟩ :: L) (ix4 0 ch r l) = View.canon L (ix4 0 ch r l) :=
  canon_skip inb w L (1 : Fin 4) (Or.inl h)
theorem out_hit {n : ℕ} (ch : Fin 8) (inb : ∀ a, (![0, n, 0, 0] : Fin 4 → ℕ) a + (![1, 1, 40, 128] : Fin 4 → ℕ) a ≤ S1x8x40x128.size a)
    (w : (Rect.unit (s := S1x8x40x128) ![0, n, 0, 0] ![1, 1, 40, 128] inb).shape.Idx → Elt Ideal .f32)
    (L : List (View.Piece (Elt Ideal) S1x8x40x128 .f32)) (h : (ch : ℕ) = n) :
    View.canon (⟨Rect.unit (s := S1x8x40x128) ![0, n, 0, 0] ![1, 1, 40, 128] inb, w⟩ :: L) (ix4 0 ch r l) = w (ix4 0 0 r l) := by
  subst h
  exact canon_hit inb w L (ix4 0 0 r l) fun a => by fin_cases a <;> simp [ix4]

/-- The body's output block, entry by entry. -/
theorem out_eq (ch : Fin 8) : out0_A_2 c i arg1 harg1 arg2 harg2 arg3 harg3 x0 x1 (ix4 0 ch r l) = rowOut (real r l) (best x0 x1 r l) ch := by
  unfold out0_A_2
  rw [View.read_writes_junk_eq_canon]
  unfold kernelRun0_A
  dsimp only
  fin_cases ch <;> simp (disch := decide) only [out_skip, out_hit]
  · pointwise [k0_pay200]
    rw [last0]
    exact select_fg (fg_eq_one c arg1 harg1 arg2 harg2 x0 x1 r l)
  · pointwise [k0_pay201]
    rw [last0]
    exact select_bg (bg_eq_one c arg1 harg1 arg2 harg2 x0 x1 r l)
  · pointwise [k0_pay202]
    rw [last1]; rfl
  · pointwise [k0_pay203]
    rw [last2]; rfl
  · pointwise [k0_pay204]
    rw [last3]; rfl
  · pointwise [k0_pay205]
    rw [last4]; rfl
  · unfold sl.r_257
    pointwise [k0_pay206]
    rw [last5]; rfl
  · pointwise [k0_pay1]
    exact flag_fg (fg_eq_one c arg1 harg1 arg2 harg2 x0 x1 r l)

end Cert.Roi.Iou

end
-- ==== Proof.Region0.lean ====
/- The first kernel's result array: every box of every image holds `rowOut` of its scan. -/
module

public import proofs.«01_k».proof.Proof.IouBlock
public import Idealize.ShloMosaic.Lib.Pipeline.ValueKit

@[expose] public section

set_option maxRecDepth 16384

noncomputable section

namespace Cert.Roi.Iou

open Idealize.ShloMosaic Idealize.ShloMosaic.TcCoe Cert.KernelIdeal Cert.KernelIdeal.Gen Cert.Roi

variable (V : (c : Dev nD) → (b : Ref sig .tc) → Buf (Elt Ideal) ((c : Thread nD τ).loc b)) (c : Dev nD)

/-- The boxes and the ground truths the region reads. -/
abbrev boxes : Vec Ideal S2x4x40x128 .f32 := V c main_call0_v5
abbrev truths : Vec Ideal S2x20x5 .f32 := V c main_arg1

/-- The result array as a whole. -/
def arr (X : Vec Ideal S2x4x40x128 .f32) (G : Vec Ideal S2x20x5 .f32) : Vec Ideal S2x8x40x128 .f32 := fun j =>
  rowOut (real (j 2) (j 3)) (scan (fun k => X (ix4 (j 0) k (j 2) (j 3))) (fun g k => G (ix3 (j 0) g k))) (j 1)

theorem idx0 : ∀ t : Fin grid0.N, (cfg0.win 0).index t = ![(grid0.coords t 0).val, 0, 0, 0] ∧ (cfg0.win 1).index t = ![(grid0.coords t 0).val, 0, 0]
    ∧ (cfg0.win 2).index t = ![(grid0.coords t 0).val, 0, 0, 0] := by decide +kernel

theorem arr_eq : (dat0 V c).arrAt 2 cfg0.N = arr (boxes V c) (truths V c) := by
  refine (dat0 V c).arrAt_eq_of_covers 2 _ (by decide +kernel) fun t hf y => ?_
  blk_simp
  rw [after0_2]
  unfold outsAt0
  idx_vars y
  obtain rfl : y0 = 0 := Subsingleton.elim _ _
  rw [out_eq]
  have e : ((View.whole main_call0_v6).slice (win0_2.rect t)).emb (ix4 0 y1 y2 y3) = ix4 (grid0.coords t 0) y1 y2 y3 := by
    blk_ext [idx0 t]
  have h0 : ∀ k, iblk0 V c 0 t (ix4 0 k y2 y3) = boxes V c (ix4 (grid0.coords t 0) k y2 y3) := fun k => by blk_ext [iblk0, idx0 t]
  have h1 : ∀ g k, iblk0 V c 1 t (ix3 0 g k) = truths V c (ix3 (grid0.coords t 0) g k) := fun g k => by blk_ext [iblk0, idx0 t]
  refine Eq.trans ?_ (congrArg (arr (boxes V c) (truths V c)) e.symm)
  unfold best arr
  simp only [h0, h1]
  rfl

end Cert.Roi.Iou

end
-- ==== Proof.Rows.lean ====
/- The mathematics of the last stage and of the whole: the literals' values, the regression targets, the one-hot weights
   that form a slot's data row, the candidate boxes of an image, and each box's best overlap. -/
module

public import proofs.«01_k».proof.Proof.Model
public import Idealize.ShloMosaic.Lib.IdealHost

@[expose] public section

noncomputable section

namespace Cert.Roi

open Idealize.ShloMosaic

theorem zero_eq : zero = 0 := Ideal.ofBits_zero_f32
theorem one_eq : one = 1 := Ideal.ofBits_one_f32
theorem half_eq : half = ((1 / 2 : ℝ) : EReal) := by simp [half, Ideal.ofBits, Ideal.ieee, -EReal.coe_mul]; norm_num
theorem negOne_eq : negOne = ((-1 : ℝ) : EReal) := by simp [negOne, Ideal.ofBits, Ideal.ieee, -EReal.coe_mul, -EReal.coe_neg]; norm_num
theorem negInf_eq : negInf = ⊥ := by simp [negInf, Ideal.ofBits, Ideal.ieee]

/-- The targets' scales. -/
abbrev tenth : EReal := Ideal.ofBits .f32 0x3DCCCCCD#32
abbrev fifth : EReal := Ideal.ofBits .f32 0x3E4CCCCD#32

/-- The normalised shift of the centre of [g1, g2] against the centre of [e1, e2]. -/
def shift (e1 e2 g1 g2 : EReal) : EReal :=
  Ideal.div (Ideal.div (g1 + half * (g2 - g1 + one) - (e1 + half * (e2 - e1 + one))) (e2 - e1 + one) - zero) tenth

/-- The normalised logarithm of the ratio of the two lengths. -/
def stretch (e1 e2 g1 g2 : EReal) : EReal :=
  Ideal.div (Ideal.log (Ideal.div (g2 - g1 + one) (e2 - e1 + one)) - zero) fifth

/-- The regression targets of a box `e` against its row `g`. -/
def target (e g : Fin 4 → EReal) : Fin 4 → EReal :=
  ![shift (e 0) (e 2) (g 0) (g 2), shift (e 1) (e 3) (g 1) (g 3), stretch (e 0) (e 2) (g 0) (g 2), stretch (e 1) (e 3) (g 1) (g 3)]

open Classical in
/-- `a` where `p` holds, else zero. -/
def gate (p : Prop) (a : EReal) : EReal := if p then a else 0

theorem select_gate {c : BitVec 1} {p : Prop} (h : c = 1 ↔ p) (a : EReal) : Scalar.select c a 0 = gate p a := by
  classical
  exact (select_iff h _ _).trans (if_congr Iff.rfl rfl rfl)

/-- A bit, as a number. -/
theorem bit_gate {c : BitVec 1} {p : Prop} (h : c = 1 ↔ p) : (FloatOps.sitofp .f32 (BitVec.setWidth 32 c) : Ideal .f32) = gate p 1 := by
  unfold gate
  by_cases hp : p
  · rw [if_pos hp, h.mpr hp]
    show (((BitVec.setWidth 32 (1 : BitVec 1)).toInt : ℝ) : EReal) = 1
    rw [show (BitVec.setWidth 32 (1 : BitVec 1)).toInt = 1 by decide]
    norm_num
  · rw [if_neg hp]
    have hc : c = 0 := (bit_ne_one_iff c).mp fun e => hp (h.mp e)
    rw [hc]
    show (((BitVec.setWidth 32 (0 : BitVec 1)).toInt : ℝ)   : EReal) = 0
    rw [show (BitVec.setWidth 32 (0 : BitVec 1)).toInt = 0 by decide]
    norm_num

/-- The weight a box has for slot `s`: one where the box's rank is the slot's. -/
def hot (s : ℕ) (a b : BitVec 32) : EReal :=
  Scalar.select (Scalar.cmpi .slt (BitVec.ofNat 32 s) (64#32)) (Scalar.select (Scalar.cmpi .eq a (BitVec.ofNat 32 s)) 1 0)
    (Scalar.select (Scalar.cmpi .eq b (IntOp.subi (BitVec.ofNat 32 s) 64#32)) 1 0)

/-- A slot's data row. -/
def dataRow (a b : Fin 5120 → BitVec 32) (X : Fin 5120 → Fin 10 → EReal) (s : ℕ) (k : Fin 10) : EReal :=
  ∑ n : Fin 5120, hot s (a n) (b n) * X n k

/-- A slot's label, read off its data row. -/
def rowLabel (s : ℕ) (D : Fin 10 → EReal) : EReal := gate (half < D 9 ∧ s < 64) (D 8)

/-- The candidate boxes of an image: its proposals (whose first column is not a corner), then its ground-truth boxes. -/
def cand (A : Fin 5000 → Fin 5 → EReal) (G : Fin 20 → Fin 5 → EReal) (n : Fin 5020) (k : Fin 4) : EReal :=
  if h : (n : ℕ) < 5000 then A ⟨n, h⟩ k.succ else G ⟨n - 5000, by omega⟩ k.castSucc

/-- The overlap of a box with a ground-truth row, and the largest of them. -/
def ov (r : Fin 4 → EReal) (g : Fin 5 → EReal) : EReal :=
  overlap (r 0) (r 1) (r 2) (r 3) (area (r 0) (r 1) (r 2) (r 3)) (g 0) (g 1) (g 2) (g 3)
def best (r : Fin 4 → EReal) (G : Fin 20 → Fin 5 → EReal) : EReal := Finset.univ.fold max ⊥ fun g => ov r (G g)

/-- `g` is the first row of the largest value. -/
def First {n : ℕ} (o : Fin n → EReal) (m : EReal) (g : Fin n) : Prop := o g = m ∧ ∀ h < g, o h < m

theorem First.unique {n : ℕ} {o : Fin n → EReal} {m : EReal} {g h : Fin n} (a : First o m g) (b : First o m h) : g = h := by
  rcases lt_trichotomy g h with k | k | k
  · exact absurd a.1 (b.2 g k).ne
  · exact k
  · exact absurd b.1 (a.2 h k).ne

/-- The scan keeps a value no smaller than any it has seen, and the first row that reached it, or its start. -/
theorem scan_fold (o : Fin 20 → EReal) (G : Fin 20 → Fin 5 → EReal) (l : List (Fin 20)) (hl : l.Pairwise (· < ·)) (s : Best) :
    (∀ g ∈ l, o g ≤ (l.foldl (fun s g => step (o g) (G g) s) s).1) ∧ s.1 ≤ (l.foldl (fun s g => step (o g) (G g) s) s).1 ∧
      (l.foldl (fun s g => step (o g) (G g) s) s = s ∨
        ∃ g ∈ l, l.foldl (fun s g => step (o g) (G g) s) s = (o g, G g) ∧ s.1 < o g ∧ ∀ h ∈ l, h < g → o h < o g) := by
  induction l generalizing s with
  | nil => exact ⟨fun g hg => absurd hg List.not_mem_nil, le_refl _, Or.inl rfl⟩
  | cons a l ih =>
    rw [List.pairwise_cons] at hl
    rw [List.foldl_cons]
    obtain ⟨h1, h2, h3⟩ := ih hl.2 (step (o a) (G a) s)
    by_cases ha : s.1 < o a
    · have e : step (o a) (G a) s = (o a, G a) := by
        unfold step pick
        rw [(Ideal.cmp_ogt_eq_one _ _).mpr ha]
        rfl
      rw [e] at h1 h2 h3 ⊢
      refine ⟨fun g hg => ?_, ha.le.trans h2, Or.inr ?_⟩
      · rcases List.mem_cons.mp hg with rfl | hg
        · exact h2
        · exact h1 g hg
      · rcases h3 with h3 | ⟨g, hg, h3, h4, h5⟩
        · refine ⟨a, List.mem_cons_self, h3, ha, fun h hh k => ?_⟩
          rcases List.mem_cons.mp hh with rfl | hh
          · exact absurd k (lt_irrefl _)
          · exact absurd (k.trans (hl.1 h hh)) (lt_irrefl _)
        · refine ⟨g, List.mem_cons_of_mem _ hg, h3, ha.trans h4, fun h hh k => ?_⟩
          rcases List.mem_cons.mp hh with rfl | hh
          · exact h4
          · exact h5 h hh k
    · have e : step (o a) (G a) s = s := by
        have hc : Ideal.cmp .ogt (o a) s.1 = 0 := (bit_ne_one_iff _).mp fun k => ha ((Ideal.cmp_ogt_eq_one _ _).mp k)
        unfold step pick
        rw [hc]
        rfl
      rw [e] at h1 h2 h3 ⊢
      refine ⟨fun g hg => ?_, h2, ?_⟩
      · rcases List.mem_cons.mp hg with rfl | hg
        · exact (not_lt.mp ha).trans h2
        · exact h1 g hg
      · rcases h3 with h3 | ⟨g, hg, h3, h4, h5⟩
        · exact Or.inl h3
        · refine Or.inr ⟨g, List.mem_cons_of_mem _ hg, h3, h4, fun h hh k => ?_⟩
          rcases List.mem_cons.mp hh with rfl | hh
          · exact (not_lt.mp ha).trans_lt h4
          · exact h5 h hh k

/-- Above −1 the scan's value is the largest overlap, and its row the first one that reaches it. -/
theorem scan_spec (r : Fin 4 → EReal) (G : Fin 20 → Fin 5 → EReal) :
    (scan r G).1 = max negOne (best r G) ∧ (negOne < best r G → ∃ g, First (fun g => ov r (G g)) (best r G) g ∧ (scan r G).2 = G g) := by
  obtain ⟨h1, h2, h3⟩ := scan_fold (fun g => ov r (G g)) G (List.finRange 20) (List.pairwise_lt_finRange 20) (negOne, fun _ => zero)
  have hs : (List.finRange 20).foldl (fun s g => step (ov r (G g)) (G g) s) (negOne, fun _ => zero) = scan r G := rfl
  rw [hs] at h1 h2 h3
  have hb : ∀ g, ov r (G g) ≤ best r G := fun g => (Finset.le_fold_max (ov r (G g))).mpr (Or.inr ⟨g, Finset.mem_univ _, le_refl _⟩)
  have hle : best r G ≤ (scan r G).1 := (Finset.fold_max_le _).mpr ⟨bot_le, fun g _ => h1 g (List.mem_finRange g)⟩
  rcases h3 with h3 | ⟨g, _, h3, h4, h5⟩
  · have e : (scan r G).1 = negOne := congrArg Prod.fst h3
    rw [e] at hle ⊢
    exact ⟨(max_eq_left hle).symm, fun h => absurd h (not_lt.mpr hle)⟩
  · have e : (scan r G).1 = ov r (G g) := congrArg Prod.fst h3
    rw [e] at hle ⊢
    have hm : ov r (G g) = best r G := le_antisymm (hb g) hle
    refine ⟨?_, fun _ => ⟨g, ⟨hm, fun h k => hm ▸ h5 h (List.mem_finRange h) k⟩, congrArg Prod.snd h3⟩⟩
    rw [← hm]
    exact (max_eq_right h4.le).symm

theorem negOne_lt_half : negOne < half := by rw [negOne_eq, half_eq]; exact EReal.coe_lt_coe (by norm_num)
theorem negOne_lt_zero : negOne < zero := by rw [negOne_eq, zero_eq, ← EReal.coe_zero]; exact EReal.coe_lt_coe (by norm_num)

/-- The scores do not see the scan's start. -/
theorem half_le_max (m : EReal) : half ≤ max negOne m ↔ half ≤ m :=
  le_max_iff.trans (or_iff_right (not_le.mpr negOne_lt_half))
theorem zero_le_max (m : EReal) : zero ≤ max negOne m ↔ zero ≤ m :=
  le_max_iff.trans (or_iff_right (not_le.mpr negOne_lt_zero))
theorem fgScore_max (p : Prop) (m : EReal) : fgScore p (max negOne m) = fgScore p m := by
  unfold fgScore
  by_cases h : p ∧ half ≤ m
  · rw [if_pos h, if_pos ⟨h.1, (half_le_max m).mpr h.2⟩, max_eq_right (negOne_lt_half.le.trans h.2)]
  · rw [if_neg h, if_neg fun k => h ⟨k.1, (half_le_max m).mp k.2⟩]
theorem bgScore_max (p : Prop) (m : EReal) : bgScore p (max negOne m) = bgScore p m := by
  unfold bgScore
  by_cases h : (p ∧ m < half) ∧ zero ≤ m
  · have e : max negOne m = m := max_eq_right (negOne_lt_zero.le.trans h.2)
    rw [e]
  · rw [if_neg h, if_neg]
    rintro ⟨⟨h1, h2⟩, h3⟩
    exact h ⟨⟨h1, (le_max_right _ _).trans_lt h2⟩, (zero_le_max m).mp h3⟩
theorem fgFlag_max (p : Prop) (m : EReal) : fgFlag p (max negOne m) = fgFlag p m := by
  unfold fgFlag
  by_cases h : p ∧ half ≤ m
  · rw [if_pos h, if_pos ⟨h.1, (half_le_max m).mpr h.2⟩]
  · rw [if_neg h, if_neg fun k => h ⟨k.1, (half_le_max m).mp k.2⟩]

/-- The flag says whether the box is foreground. -/
theorem half_lt_flag (p : Prop) (m : EReal) : half < fgFlag p m ↔ p ∧ half ≤ m := by
  unfold fgFlag
  have h1 : half < 1 := by rw [half_eq, ← EReal.coe_one]; exact EReal.coe_lt_coe (by norm_num)
  have h0 : ¬ half < 0 := by rw [half_eq, ← EReal.coe_zero, EReal.coe_lt_coe_iff]; norm_num
  by_cases h : p ∧ half ≤ m
  · rw [if_pos h]; exact ⟨fun _ => h, fun _ => h1⟩
  · rw [if_neg h]; exact ⟨fun k => absurd k h0, fun k => absurd k h⟩

end Cert.Roi

end
-- ==== Proof.Host.lean ====
/- What the kernel's host operations between the regions hold, read at an index. -/
module

public import proofs.«01_k».proof.Proof.Region0
public import proofs.«01_k».proof.Proof.Rows
public import Idealize.ShloMosaic.Lib.StableHlo.ReadAt

@[expose] public section

set_option maxRecDepth 16384

noncomputable section

namespace Cert.Roi.Host

open Idealize.ShloMosaic Idealize.ShloMosaic.TcCoe Cert.KernelIdeal Cert.KernelIdeal.Gen Cert.Roi

variable (V : Valuation τ sig (Elt Ideal)) (b : Fin 2)

/-- The two arguments, at image `b`. -/
def A (n : Fin 5000) (k : Fin 5) : EReal := V (Proc.devRef .tc main_arg0) (ix3 b n k)
def G (g : Fin 20) (k : Fin 5) : EReal := V (Proc.devRef .tc main_arg1) (ix3 b g k)

theorem v1_eq (n : Fin 5000) (k : Fin 4) : StableHlo.upto hostOps0 V 4 (Proc.devRef .tc main_call0_v1) (ix3 b n k) = A V b n k.succ := by
  after_reads_at
  unfold A
  congr 2
  exact Fin.ext (Nat.add_comm 1 k)

theorem v2_eq (n : Fin 20) (k : Fin 4) : StableHlo.upto hostOps0 V 4 (Proc.devRef .tc main_call0_v2) (ix3 b n k) = G V b n k.castSucc := by
  after_reads_at
  rfl

theorem v3_eq (n : Fin 5020) (k : Fin 4) :
    StableHlo.after hostOps0 V (Proc.devRef .tc main_call0_v3) (ix3 b (n.castLE (by decide)) k) = cand (A V b) (G V b) n k := by
  unfold cand
  after_reads_at
  by_cases h : (n : ℕ) < 5000
  · refine (dif_pos h).trans ?_
    rw [dif_pos (show (n : ℕ) < 5000 from h)]
    exact v1_eq V b ⟨n, h⟩ k
  · have h2 : (n : ℕ) - 5000 < 20 := by omega
    refine (dif_neg h).trans ((dif_pos h2).trans ?_)
    rw [dif_neg (show ¬ (n : ℕ) < 5000 from h)]
    exact v2_eq V b ⟨n - 5000, h2⟩ k

theorem v5_eq (k : Fin 4) (r : Fin 40) (l : Fin 128) :
    StableHlo.after hostOps0 V (Proc.devRef .tc main_call0_v5) (ix4 b k r l)
      = StableHlo.after hostOps0 V (Proc.devRef .tc main_call0_v3) (ix3 b ⟨(r : ℕ) * 128 + l, by omega⟩ k) := by
  after_reads_at

theorem v13_eq (n : Fin 5120) :
    StableHlo.after hostOps1 V (Proc.devRef .tc main_call0_v13) (ix3 b 0 n)
      = V (Proc.devRef .tc main_call0_v6) (ix4 b 0 ⟨n / 128, by omega⟩ ⟨n % 128, by omega⟩) := by
  after_reads_at

theorem v14_eq (n : Fin 5120) :
    StableHlo.after hostOps1 V (Proc.devRef .tc main_call0_v14) (ix3 b 0 n)
      = V (Proc.devRef .tc main_call0_v6) (ix4 b 1 ⟨n / 128, by omega⟩ ⟨n % 128, by omega⟩) := by
  after_reads_at

theorem v15_eq (n : Fin 5120) :
    StableHlo.after hostOps1 V (Proc.devRef .tc main_call0_v15) (ix3 b n 0)
      = V (Proc.devRef .tc main_call0_v6) (ix4 b 0 ⟨n / 128, by omega⟩ ⟨n % 128, by omega⟩) := by
  after_reads_at

theorem v16_eq (n : Fin 5120) :
    StableHlo.after hostOps1 V (Proc.devRef .tc main_call0_v16) (ix3 b n 0)
      = V (Proc.devRef .tc main_call0_v6) (ix4 b 1 ⟨n / 128, by omega⟩ ⟨n % 128, by omega⟩) := by
  after_reads_at

theorem v21_head (n : Fin 5120) (k : Fin 4) :
    StableHlo.after hostOps2 V (Proc.devRef .tc main_call0_v21) (ix3 b n (k.castLE (by decide))) = V (Proc.devRef .tc main_call0_v3) (ix3 b n k) := by
  after_reads_at
  have h : (k : ℕ) < 4 := k.isLt
  refine (dif_pos h).trans ?_
  after_reads_at
  rfl

theorem v21_tail (n : Fin 5120) (k : Fin 6) :
    StableHlo.after hostOps2 V (Proc.devRef .tc main_call0_v21) (ix3 b n (k.natAdd 4))
      = V (Proc.devRef .tc main_call0_v6) (ix4 b (k.natAdd 2) ⟨n / 128, by omega⟩ ⟨n % 128, by omega⟩) := by
  have h : ¬ ((k.natAdd 4 : Fin 10) : ℕ) < 4 := by simp
  have e : (⟨((k.natAdd 4 : Fin 10) : ℕ) - 4, by omega⟩ : Fin 6) = k := Fin.ext (Nat.add_sub_cancel_left 4 k)
  after_reads_at
  refine (dif_neg h).trans ?_
  refine (congrArg (fun q : Fin 6 => StableHlo.upto hostOps2 V 3 (Proc.tc.devRef main_call0_v20) (ix3 b n q)) e).trans ?_
  after_reads_at
  rfl

theorem v22_eq (n : Fin 5120) :
    StableHlo.after hostOps2 V (Proc.devRef .tc main_call0_v22) (ix3 b 0 n)
      = V (Proc.devRef .tc main_call0_v17_0) (ix3 b n 0) := by
  after_reads_at

theorem v23_eq (n : Fin 5120) :
    StableHlo.after hostOps2 V (Proc.devRef .tc main_call0_v23) (ix3 b 0 n)
      = V (Proc.devRef .tc main_call0_v17_1) (ix3 b n 0) := by
  after_reads_at

theorem out3_eq (s : Fin 256) :
    StableHlo.after hostOps3 V (Proc.devRef .tc main_v0_3) (ix2 b s)
      = V (Proc.devRef .tc main_call0_v24_1) (ix3 b s 0) := by
  after_reads_at

theorem out1_eq : StableHlo.after hostOps3 V (Proc.devRef .tc main_v0_1) = broadcastInDim S2x256x9 ![] bcast_S_S2x256x9 (constant (F := Ideal) S_ .f32 0x00000000#32) := by
  after_reads_simp
  rfl
theorem out2_eq : StableHlo.after hostOps3 V (Proc.devRef .tc main_v0_2) = broadcastInDim S2x256x2 ![] bcast_S_S2x256x2 (constant (F := Ideal) S_ .f32 0x00000000#32) := by
  after_reads_simp
  rfl
theorem out4_eq : StableHlo.after hostOps3 V (Proc.devRef .tc main_v0_4) = broadcastInDim S2x256x201 ![] bcast_S_S2x256x201 (constant (F := Ideal) S_ .f32 0x00000000#32) := by
  after_reads_simp
  rfl
theorem out5_eq : StableHlo.after hostOps3 V (Proc.devRef .tc main_v0_5) = broadcastInDim S2x256x1 ![] bcast_S_S2x256x1 (constant (F := Ideal) S_ .f32 0x00000000#32) := by
  after_reads_simp
  rfl

end Cert.Roi.Host

end
-- ==== Proof.Order.lean ====
/- Ranks. The rank of a position is the number of positions that stand above it, by greater score and then by earlier
   position. Distinct positions have distinct ranks, and a stable sort by the score puts rank `k` at place `k`. -/
module

public import proofs.«01_k».proof.Proof.Model
public import Idealize.ShloMosaic.Lib.SortFacts

@[expose] public section

noncomputable section

namespace Cert.Roi

open Idealize.ShloMosaic

variable {n : ℕ} (S : Fin n → EReal)

/-- Position `j` stands above position `i`. -/
def Above (j i : Fin n) : Prop := S i < S j ∨ S j = S i ∧ (j : ℕ) < i

variable {S}

theorem Above.trans {a b c : Fin n} (h : Above S a b) (k : Above S b c) : Above S a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

theorem Above.irrefl (a : Fin n) : ¬ Above S a a := by
  rintro (h | ⟨_, h⟩)
  · exact lt_irrefl _ h
  · exact lt_irrefl _ h

theorem Above.total {a b : Fin n} (h : a ≠ b) : Above S a b ∨ Above S b a := by
  rcases lt_trichotomy (S a) (S b) with k | k | k
  · exact Or.inr (Or.inl k)
  · rcases lt_or_gt_of_ne (Fin.val_ne_of_ne h) with q | q
    · exact Or.inl (Or.inr ⟨k, q⟩)
    · exact Or.inr (Or.inr ⟨k.symm, q⟩)
  · exact Or.inl (Or.inl k)

variable (S)

/-- The rank of a position. -/
def rank (p : Fin n) : ℕ := count S (S p) p

variable {S}

/-- What stands above has the smaller rank. -/
theorem rank_lt {a b : Fin n} (h : Above S a b) : rank S a < rank S b := by
  classical
  unfold rank count
  refine Finset.card_lt_card (Finset.ssubset_iff_subset_ne.mpr ⟨fun j hj => ?_, fun e => ?_⟩)
  · exact Finset.mem_filter.mpr ⟨Finset.mem_univ _, Above.trans (Finset.mem_filter.mp hj).2 h⟩
  · have : a ∈ Finset.univ.filter fun j => S b < S j ∨ S j = S b ∧ (j : ℕ) < b := Finset.mem_filter.mpr ⟨Finset.mem_univ _, h⟩
    rw [← e] at this
    exact Above.irrefl a (Finset.mem_filter.mp this).2

theorem rank_injective : Function.Injective (rank S) := fun a b h => by
  by_contra hne
  rcases Above.total (S := S) hne with k | k
  · exact absurd h (rank_lt k).ne
  · exact absurd h (rank_lt k).ne'

/-- The stable insertion sort by the greater score puts what stands above first. -/
theorem pairwise_insert (R : Fin n → Fin n → Bool) (hR : ∀ a b, R a b = true ↔ S b < S a) (a : Fin n) (l : List (Fin n))
    (ha : ∀ b ∈ l, a < b) (hl : l.Pairwise (Above S)) : (insertBefore R a l).Pairwise (Above S) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact Or.inl ((hR _ _).mp h)
      · exact hl.1 c hc'
    · rename_i h
      have hba : Above S a b := by
        rcases lt_or_eq_of_le (not_lt.mp fun k => h ((hR _ _).mpr k)) with k | k
        · exact Or.inl k
        · exact Or.inr ⟨k.symm, ha b List.mem_cons_self⟩
      refine List.pairwise_cons.mpr ⟨fun c hc => ?_, List.pairwise_cons.mpr hl⟩
      rcases List.mem_cons.mp hc with rfl | hc'
      · exact hba
      · exact hba.trans (hl.1 c hc')

theorem pairwise_sort (R : Fin n → Fin n → Bool) (hR : ∀ a b, R a b = true ↔ S b < S a) (l : List (Fin n)) (hl : l.Pairwise (· < ·)) :
    (stableSort R l).Pairwise (Above S) := by
  induction l with
  | nil => exact List.Pairwise.nil
  | cons a l ih =>
    rw [List.pairwise_cons] at hl
    unfold stableSort
    exact pairwise_insert R hR a _ (fun b hb => hl.1 b ((perm_stableSort R l).mem_iff.mp hb)) (ih hl.2)

/-- An earlier place of the sort stands above a later one. -/
theorem above_sortedFrom (R : Fin n → Fin n → Bool) (hR : ∀ a b, R a b = true ↔ S b < S a) {i j : Fin n} (h : i < j) :
    Above S (sortedFrom R i) (sortedFrom R j) := by
  have hp : ∀ a b : Fin (sortPositions n R).length, a < b → Above S ((sortPositions n R).get a) ((sortPositions n R).get b) :=
    List.pairwise_iff_get.mp (pairwise_sort R hR _ (List.pairwise_lt_finRange n))
  unfold sortedFrom
  exact hp _ _ (by simp only [Fin.lt_def, Fin.val_cast]; exact h)

/-- The sort puts rank `k` at place `k`. -/
theorem rank_sortedFrom (R : Fin n → Fin n → Bool) (hR : ∀ a b, R a b = true ↔ S b < S a) (k : Fin n) : rank S (sortedFrom R k) = k := by
  classical
  have e : (Finset.univ.filter fun j : Fin n => S (sortedFrom R k) < S j ∨ S j = S (sortedFrom R k) ∧ (j : ℕ) < sortedFrom R k)
      = (Finset.univ.filter fun i : Fin n => i < k).image (sortedFrom R) := by
    ext j
    rw [Finset.mem_filter, Finset.mem_image]
    constructor
    · rintro ⟨_, h⟩
      obtain ⟨i, rfl⟩ := sortedFrom_surjective R j
      refine ⟨i, Finset.mem_filter.mpr ⟨Finset.mem_univ _, ?_⟩, rfl⟩
      rcases lt_trichotomy i k with q | rfl | q
      · exact q
      · exact absurd h (Above.irrefl _)
      · exact absurd (Above.trans h (above_sortedFrom R hR q)) (Above.irrefl _)
    · rintro ⟨i, hi, rfl⟩
      exact ⟨Finset.mem_univ _, above_sortedFrom R hR (Finset.mem_filter.mp hi).2⟩
  have c : ((Finset.univ.filter fun i : Fin n => i < k).image (sortedFrom R)).card = k := by
    rw [Finset.card_image_of_injective _ (sortedFrom_injective R)]
    have h : (Finset.univ.filter fun i : Fin n => i < k) = Finset.Iio k := by ext i; simp
    rw [h]
    exact Fin.card_Iio k
  unfold rank count
  refine Eq.trans ?_ c
  rw [← e]

/-- Among `n` positions padded by positions of score −∞, a position of the `n` keeps its rank. -/
theorem count_pad {N : ℕ} (hn : n ≤ N) (T : Fin N → EReal) (h1 : ∀ j : Fin n, T (j.castLE hn) = S j) (h2 : ∀ j : Fin N, n ≤ (j : ℕ) → T j = ⊥)
    (p : Fin n) : count T (S p) p = rank S p := by
  classical
  unfold rank count
  have e : (Finset.univ.filter fun j : Fin N => S p < T j ∨ T j = S p ∧ (j : ℕ) < p)
      = (Finset.univ.filter fun j : Fin n => S p < S j ∨ S j = S p ∧ (j : ℕ) < p).image (Fin.castLE hn) := by
    ext j
    rw [Finset.mem_filter, Finset.mem_image]
    constructor
    · rintro ⟨_, h⟩
      have hj : (j : ℕ) < n := by
        by_contra hj
        rw [h2 j (by omega)] at h
        rcases h with h | ⟨_, h⟩
        · exact not_lt_bot h
        · have := p.2; omega
      refine ⟨⟨j, hj⟩, Finset.mem_filter.mpr ⟨Finset.mem_univ _, ?_⟩, rfl⟩
      rw [← h1 ⟨j, hj⟩]
      exact h
    · rintro ⟨i, hi, rfl⟩
      refine ⟨Finset.mem_univ _, ?_⟩
      rw [h1]
      exact (Finset.mem_filter.mp hi).2
  have c := Finset.card_image_of_injective (Finset.univ.filter fun j : Fin n => S p < S j ∨ S j = S p ∧ (j : ℕ) < p) (Fin.castLE_injective hn)
  refine Eq.trans ?_ c
  rw [← e]

/-- A padding position's rank is at least `n`. -/
theorem le_count_pad {N : ℕ} (hn : n ≤ N) (T : Fin N → EReal) (p : ℕ) (hp : n ≤ p) : n ≤ count T ⊥ p := by
  classical
  unfold count
  have c := Finset.card_image_of_injective (Finset.univ : Finset (Fin n)) (Fin.castLE_injective hn)
  rw [Finset.card_univ, Fintype.card_fin] at c
  refine c.symm.le.trans ?_
  refine Finset.card_le_card fun j hj => ?_
  obtain ⟨i, _, rfl⟩ := Finset.mem_image.mp hj
  refine Finset.mem_filter.mpr ⟨Finset.mem_univ _, ?_⟩
  rcases eq_or_ne (T (i.castLE hn)) ⊥ with h | h
  · exact Or.inr ⟨h, lt_of_lt_of_le i.2 hp⟩
  · exact Or.inl (bot_lt_iff_ne_bot.mpr h)

/-- A rank among `N` positions is at most `N`. -/
theorem count_le {N : ℕ} (T : Fin N → EReal) (m : EReal) (p : ℕ) : count T m p ≤ N := by
  classical
  unfold count
  exact (Finset.card_le_univ _).trans (Fintype.card_fin N).le

end Cert.Roi

end
-- ==== Proof.Slots.lean ====
/- A slot's one-hot sum picks the candidate of the slot's rank, and the gates that follow see no more of it than the reference does. -/
module

public import proofs.«01_k».proof.Proof.Rows
public import proofs.«01_k».proof.Proof.Order
public import Idealize.ShloMosaic.Lib.WordCmp

@[expose] public section

set_option maxRecDepth 16384

noncomputable section

namespace Cert.Roi

open Idealize.ShloMosaic

/-- Among `N ≥ n` entries of which those past the first `n` are least, only entry `p` stands at the rank `s` that `p` has among the first `n`. -/
theorem count_eq_iff {n N : ℕ} (S : Fin n → EReal) (hn : n ≤ N) (T : Fin N → EReal) (h1 : ∀ j : Fin n, T (j.castLE hn) = S j) (h2 : ∀ j : Fin N, n ≤ (j : ℕ) → T j = ⊥)
    (p : Fin n) (s : ℕ) (hp : rank S p = s) (hs : s < n) (j : Fin N) : count T (T j) j = s ↔ j = p.castLE hn := by
  by_cases h : (j : ℕ) < n
  · have e : count T (T j) j = rank S ⟨j, h⟩ := by
      rw [← count_pad hn T h1 h2 ⟨j, h⟩, ← h1 ⟨j, h⟩]
      rfl
    rw [e, ← hp]
    constructor
    · intro k
      have k' : (⟨j, h⟩ : Fin n) = p := rank_injective k
      exact Fin.ext (congrArg Fin.val k' : (j : ℕ) = p)
    · intro k
      have k' : (⟨j, h⟩ : Fin n) = p := Fin.ext (congrArg Fin.val k : (j : ℕ) = (p.castLE hn : Fin N))
      rw [k']
  · rw [h2 j (not_lt.mp h)]
    constructor
    · intro k
      have := le_count_pad hn T j (not_lt.mp h)
      omega
    · intro k
      exact absurd (k ▸ p.isLt : (j : ℕ) < n) h

theorem hot_fg (s a : ℕ) (b : BitVec 32) (hs : s < 64) (ha : a ≤ 5120) : hot s (BitVec.ofNat 32 a) b = gate (a = s) 1 := by
  have h1 : Scalar.cmpi .slt (BitVec.ofNat 32 s) 64#32 = 1 := (WordCmp.cmpi_slt_ofNat_eq_one_iff (by omega) (by omega)).mpr hs
  unfold hot
  rw [h1]
  exact select_gate (WordCmp.cmpi_eq_ofNat_eq_one_iff (by omega) (by omega)) 1

theorem hot_bg (s b : ℕ) (a : BitVec 32) (hs : 64 ≤ s) (hs' : s < 256) (hb : b ≤ 5120) : hot s a (BitVec.ofNat 32 b) = gate (b = s - 64) 1 := by
  have h1 : Scalar.cmpi .slt (BitVec.ofNat 32 s) 64#32 = 0 :=
    (bit_ne_one_iff _).mp fun k => not_lt.mpr hs ((WordCmp.cmpi_slt_ofNat_eq_one_iff (by omega) (by omega)).mp k)
  have h2 : IntOp.subi (BitVec.ofNat 32 s) 64#32 = BitVec.ofNat 32 (s - 64) := by
    show BitVec.ofNat 32 s - BitVec.ofNat 32 64 = _
    apply BitVec.eq_of_toNat_eq
    simp only [BitVec.toNat_sub, BitVec.toNat_ofNat]
    omega
  unfold hot
  rw [h1, h2]
  exact select_gate (WordCmp.cmpi_eq_ofNat_eq_one_iff (by omega) (by omega)) 1

/-- A sum weighted by a gate open at `p` only is the entry at `p`. -/
theorem sum_gate {n : ℕ} (w : Fin n → EReal) (q : Fin n → Prop) (p : Fin n) (hw : ∀ j, w j = gate (q j) 1) (hq : ∀ j, q j ↔ j = p) (f : Fin n → EReal) :
    ∑ j, w j * f j = f p := by
  rw [Finset.sum_eq_single p]
  · rw [hw, gate, if_pos ((hq p).mpr rfl), one_mul]
  · intro j _ hj
    rw [hw, gate, if_neg fun k => hj ((hq j).mp k), zero_mul]
  · exact fun h => absurd (Finset.mem_univ p) h

/-- The slot's row is the data row of the candidate with the slot's rank. -/
theorem dataRow_eq (S1 S2 : Fin 5020 → EReal) (T1 T2 : Fin 5120 → EReal) (X : Fin 5120 → Fin 10 → EReal)
    (h1 : ∀ j : Fin 5020, T1 (j.castLE (by decide)) = S1 j) (h1' : ∀ j : Fin 5120, 5020 ≤ (j : ℕ) → T1 j = ⊥)
    (h2 : ∀ j : Fin 5020, T2 (j.castLE (by decide)) = S2 j) (h2' : ∀ j : Fin 5120, 5020 ≤ (j : ℕ) → T2 j = ⊥)
    (s : ℕ) (hs : s < 256) (p : Fin 5020) (hp : s < 64 → rank S1 p = s) (hp' : 64 ≤ s → rank S2 p = s - 64) (k : Fin 10) :
    dataRow (fun n => BitVec.ofNat 32 (count T1 (T1 n) n)) (fun n => BitVec.ofNat 32 (count T2 (T2 n) n)) X s k = X (p.castLE (by decide)) k := by
  unfold dataRow
  by_cases h : s < 64
  · exact sum_gate _ (fun n => count T1 (T1 n) n = s) _ (fun n => hot_fg s _ _ h (count_le _ _ _))
      (count_eq_iff S1 (by decide) T1 h1 h1' p s (hp h) (by omega)) fun n => X n k
  · exact sum_gate _ (fun n => count T2 (T2 n) n = s - 64) _ (fun n => hot_bg s _ _ (not_lt.mp h) hs (count_le _ _ _))
      (count_eq_iff S2 (by decide) T2 h2 h2' p (s - 64) (hp' (not_lt.mp h)) (by omega)) fun n => X n k

theorem gate_congr {p q : Prop} {a b : EReal} (h : p ↔ q) (e : q → a = b) : gate p a = gate q b := by
  unfold gate
  by_cases k : q
  · rw [if_pos k, if_pos (h.mpr k), e k]
  · rw [if_neg k, if_neg fun j => k (h.mp j)]

theorem gate_pos {p : Prop} {a : EReal} (h : 0 < gate p a) : p := by
  by_contra k
  rw [gate, if_neg k] at h
  exact lt_irrefl _ h

/-- A candidate's row of the kernel's data: its box, the row the scan assigned it, its flag. -/
structure IsRow (A : Fin 5000 → Fin 5 → EReal) (G : Fin 20 → Fin 5 → EReal) (p : Fin 5020) (D : Fin 10 → EReal) : Prop where
  box : ∀ k : Fin 4, D (k.castLE (by decide)) = cand A G p k
  row : ∀ k : Fin 5, D ((k.natAdd 4).castLE (by decide)) = (scan (cand A G p) G).2 k
  flag : D 9 = fgFlag True (scan (cand A G p) G).1

variable {A : Fin 5000 → Fin 5 → EReal} {G : Fin 20 → Fin 5 → EReal} {p : Fin 5020} {D : Fin 10 → EReal} (hD : IsRow A G p D) {g : Fin 20}
  (hg : ⊥ < best (cand A G p) G → First (fun g => ov (cand A G p) (G g)) (best (cand A G p) G) g)

include hD hg

theorem row_assigned (h : half ≤ best (cand A G p) G) (k : Fin 5) : D ((k.natAdd 4).castLE (by decide)) = G g k := by
  have hlt : negOne < best (cand A G p) G := negOne_lt_half.trans_le h
  obtain ⟨g', h1, h2⟩ := (scan_spec (cand A G p) G).2 hlt
  rw [hD.row, h2, h1.unique (hg (bot_le.trans_lt hlt))]

/-- The kernel's label of a slot is the reference's. -/
theorem label_row (s : ℕ) : rowLabel s D = gate (half ≤ best (cand A G p) G ∧ s < 64) (G g 4) := by
  unfold rowLabel
  refine gate_congr ?_ fun h => row_assigned hD hg h.1 4
  rw [hD.flag, (scan_spec _ _).1, fgFlag_max, half_lt_flag, true_and]

/-- So are its regression targets. -/
theorem target_row (s : ℕ) (k : Fin 4) :
    gate (0 < rowLabel s D) (target (fun k => D (k.castLE (by decide))) (fun k => D ((k.natAdd 4).castLE (by decide))) k)
      = gate (0 < gate (half ≤ best (cand A G p) G ∧ s < 64) (G g 4)) (target (cand A G p) (fun k => G g k.castSucc) k) := by
  rw [label_row hD hg]
  refine gate_congr Iff.rfl fun h => ?_
  have e : (fun k : Fin 4 => D ((k.natAdd 4).castLE (by decide))) = fun k => G g k.castSucc :=
    funext fun k => row_assigned hD hg (gate_pos h).1 k.castSucc
  rw [e, funext hD.box]

end Cert.Roi

end
-- ==== Proof.RankBlock.lean ====
/- The second kernel's body: the rank of a box among all boxes of its image, by a score: how many boxes stand above it,
   that is, have a larger score, or the same score and a smaller index. -/
module

public import proofs.«01_k».proof.Proof.IdealFrame
public import proofs.«01_k».proof.Proof.Model
public import Idealize.ShloMosaic.Lib.Pipeline.ValueKit
public import Idealize.ShloMosaic.Lib.IndicatorCount

@[expose] public section

set_option maxRecDepth 16384

noncomputable section

namespace Cert.Roi.Rank

open Idealize.ShloMosaic Idealize.ShloMosaic.TcCoe Cert.KernelIdeal Cert.KernelIdeal.Gen Cert.Roi

/-- Counting set bits by adding their words. -/
theorem fold_select {n : ℕ} (p : Fin n → BitVec 1) :
    (Finset.univ.fold IntOp.addi 0#32 fun x => Scalar.select (p x) 1#32 0#32) = BitVec.ofNat 32 (Finset.univ.filter fun x => p x = 1#1).card := by
  have e : (fun x => Scalar.select (p x) 1#32 0#32) = fun x => (p x).setWidth 32 := by
    funext x
    generalize p x = c
    revert c
    decide
  rw [e]
  exact IndicatorCount.fold_addi_setWidth_eq_card p _

/-- The bit that the body computes for the box at lane `x` and the box at row `q` of the point's block. -/
theorem bit_eq_one (a b : EReal) (x : Fin 5120) (q : Fin 512) (k : Fin 10) :
    IntOp.ori (Ideal.cmp .ogt a b) (IntOp.andi (Ideal.cmp .oeq a b)
        (IntOp.cmpi .slt (BitVec.ofNat 32 x) (IntOp.addi (BitVec.ofNat 32 q) (Scalar.muli (BitVec.ofNat 32 k) 512#32)))) = 1#1
      ↔ b < a ∨ a = b ∧ (x : ℕ) < q + k * 512 := by
  have hx := x.2
  have hq := q.2
  have hk := k.2
  refine (ori_eq_one _ _).trans (or_congr (Ideal.cmp_ogt_eq_one _ _) ((andi_eq_one _ _).trans (and_congr (Ideal.cmp_oeq_eq_one _ _) ?_)))
  show IntOp.cmpi .slt (BitVec.ofNat 32 x) (IntOp.addi (BitVec.ofNat 32 q) (IntOp.muli (BitVec.ofNat 32 k) (BitVec.ofNat 32 512))) = 1#1 ↔ _
  rw [WordCmp.muli_ofNat, WordCmp.addi_ofNat]
  exact WordCmp.cmpi_slt_ofNat_eq_one_iff (by omega) (by omega)

/-- The rank that the body stores, as a word. -/
theorem pay3_eq (i : grid1.Coords) (v6 : Vec Ideal S1x1x5120 .f32) (v8 : Vec Ideal S1x512x1 .f32) (q : Fin 512) :
    k1_pay3 i v6 v8 (ix3 0 q 0)
      = BitVec.ofNat 32 (count (fun j : Fin 5120 => v6 (ix3 0 0 j)) (v8 (ix3 0 q 0)) (q + (i 1 : ℕ) * 512)) := by
  pointwise [k1_pay3, k1_pay2]
  refine (fold_select _).trans (congrArg _ ?_)
  unfold count
  congr 1
  refine Finset.filter_congr fun x _ => ?_
  exact bit_eq_one _ _ x q (i 1)

/-- The rank that the body stores, as a word. -/
theorem pay1_eq (i : grid1.Coords) (v6 : Vec Ideal S1x1x5120 .f32) (v8 : Vec Ideal S1x512x1 .f32) (q : Fin 512) :
    k1_pay1 (k1_pay4 i v6 v8) (ix3 0 q 0)
      = BitVec.ofNat 32 (count (fun j : Fin 5120 => v6 (ix3 0 0 j)) (v8 (ix3 0 q 0)) (q + (i 1 : ℕ) * 512)) := by
  pointwise [k1_pay1, k1_pay4, k1_pay2]
  refine (fold_select _).trans (congrArg _ ?_)
  unfold count
  congr 1
  refine Finset.filter_congr fun x _ => ?_
  exact bit_eq_one _ _ x q (i 1)

end Cert.Roi.Rank

end
-- ==== Proof.Region1.lean ====
/- The second kernel's two result arrays: every box's foreground rank and background rank. -/
module

public import proofs.«01_k».proof.Proof.RankBlock

@[expose] public section

set_option maxRecDepth 16384

noncomputable section

namespace Cert.Roi.Rank

open Idealize.ShloMosaic Idealize.ShloMosaic.TcCoe Cert.KernelIdeal Cert.KernelIdeal.Gen Cert.Roi

variable (V : (c : Dev nD) → (b : Ref sig .tc) → Buf (Elt Ideal) ((c : Thread nD τ).loc b)) (c : Dev nD)

/-- The ranks by the scores that lie along a row and again along a column. -/
def arr (R : Vec Ideal S2x1x5120 .f32) (C : Vec Ideal S2x5120x1 .f32) : Vec Ideal S2x5120x1 .i32 := fun j =>
  BitVec.ofNat 32 (count (fun n : Fin 5120 => R (ix3 (j 0) 0 n)) (C (ix3 (j 0) (j 1) 0)) (j 1 : Fin 5120))

theorem idx1 : ∀ t : Fin grid1.N, (cfg1.win 0).index t = ![(grid1.coords t 0).val, 0, 0] ∧ (cfg1.win 1).index t = ![(grid1.coords t 0).val, 0, 0]
    ∧ (cfg1.win 2).index t = ![(grid1.coords t 0).val, (grid1.coords t 1).val, 0] ∧ (cfg1.win 3).index t = ![(grid1.coords t 0).val, (grid1.coords t 1).val, 0]
    ∧ (cfg1.win 4).index t = ![(grid1.coords t 0).val, (grid1.coords t 1).val, 0] ∧ (cfg1.win 5).index t = ![(grid1.coords t 0).val, (grid1.coords t 1).val, 0] := by
  decide +kernel

theorem arr4_eq : (dat1 V c).arrAt 4 cfg1.N = arr (V c (Pipeline.arrRef spec1 0)) (V c (Pipeline.arrRef spec1 2)) := by
  refine (dat1 V c).arrAt_eq_of_covers 4 _ (by decide +kernel) fun t hf y => ?_
  blk_simp
  rw [after1_4]
  unfold out1_4
  idx_vars y
  obtain rfl : y0 = 0 := Subsingleton.elim _ _
  obtain rfl : y2 = 0 := Subsingleton.elim _ _
  frame_out
  rw [pay3_eq]
  have hk := (grid1.coords t 1).2
  have hq := y1.2
  have e : ((View.whole main_call0_v17_0).slice (win1_4.rect t)).emb (ix3 0 y1 0)
      = ix3 (grid1.coords t 0) ⟨y1 + (grid1.coords t 1 : ℕ) * 512, by change (grid1.coords t 1 : ℕ) < 10 at hk; omega⟩ 0 := by
    blk_ext [idx1 t]
  have h0 : ∀ j, iblk1 V c 0 t (ix3 0 0 j) = V c (Pipeline.arrRef spec1 0) (ix3 (grid1.coords t 0) 0 j) := fun j => by
    blk_ext [iblk1, idx1 t]
  have h1 : iblk1 V c 2 t (ix3 0 y1 0) = V c (Pipeline.arrRef spec1 2)
      (ix3 (grid1.coords t 0) ⟨y1 + (grid1.coords t 1 : ℕ) * 512, by change (grid1.coords t 1 : ℕ) < 10 at hk; omega⟩ 0) := by
    blk_ext [iblk1, idx1 t]
  refine Eq.trans ?_ (congrArg (arr (V c (Pipeline.arrRef spec1 0)) (V c (Pipeline.arrRef spec1 2))) e.symm)
  unfold arr
  simp only [h0, h1]
  rfl

theorem arr5_eq : (dat1 V c).arrAt 5 cfg1.N = arr (V c (Pipeline.arrRef spec1 1)) (V c (Pipeline.arrRef spec1 3)) := by
  refine (dat1 V c).arrAt_eq_of_covers 5 _ (by decide +kernel) fun t hf y => ?_
  blk_simp
  rw [after1_5]
  unfold out1_5
  idx_vars y
  obtain rfl : y0 = 0 := Subsingleton.elim _ _
  obtain rfl : y2 = 0 := Subsingleton.elim _ _
  frame_out
  rw [pay1_eq]
  have hk := (grid1.coords t 1).2
  have hq := y1.2
  have e : ((View.whole main_call0_v17_1).slice (win1_5.rect t)).emb (ix3 0 y1 0)
      = ix3 (grid1.coords t 0) ⟨y1 + (grid1.coords t 1 : ℕ) * 512, by change (grid1.coords t 1 : ℕ) < 10 at hk; omega⟩ 0 := by
    blk_ext [idx1 t]
  have h0 : ∀ j, iblk1 V c 1 t (ix3 0 0 j) = V c (Pipeline.arrRef spec1 1) (ix3 (grid1.coords t 0) 0 j) := fun j => by
    blk_ext [iblk1, idx1 t]
  have h1 : iblk1 V c 3 t (ix3 0 y1 0) = V c (Pipeline.arrRef spec1 3)
      (ix3 (grid1.coords t 0) ⟨y1 + (grid1.coords t 1 : ℕ) * 512, by change (grid1.coords t 1 : ℕ) < 10 at hk; omega⟩ 0) := by
    blk_ext [iblk1, idx1 t]
  refine Eq.trans ?_ (congrArg (arr (V c (Pipeline.arrRef spec1 1)) (V c (Pipeline.arrRef spec1 3))) e.symm)
  unfold arr
  simp only [h0, h1]
  rfl

end Cert.Roi.Rank

end
-- ==== Proof.GatherBlock.lean ====
/- What the third kernel's body leaves in its output blocks, entry by entry. A slot's data row is a sum over all boxes of
   a one-hot weight times the box's data; the four outputs are read off that row. -/
module

public import proofs.«01_k».proof.Proof.IouBlock
public import Idealize.ShloMosaic.Lib.Pipeline.ValueKit
public import proofs.«01_k».proof.Proof.Rows

@[expose] public section

set_option maxRecDepth 16384

noncomputable section

namespace Cert.Roi

open Idealize.ShloMosaic

namespace Gather

open Idealize.ShloMosaic.TcCoe Cert.KernelIdeal Cert.KernelIdeal.Gen Cert.Roi.Iou

variable (x0 x1 : Vec Ideal S1x1x5120 .i32) (x2 : Vec Ideal S1x5120x10 .f32) (s : Fin 256)

/-- The row of slot `s`. -/
def D (k : Fin 10) : EReal := dataRow (fun n => x0 (ix3 0 0 n)) (fun n => x1 (ix3 0 0 n)) (fun n k => x2 (ix3 0 n k)) s k

theorem pay7_eq (k : Fin 10) : k2_pay7 x0 x1 x2 (ix2 s k) = D x0 x1 x2 s k := by
  pointwise [k2_pay7]
  rfl

variable (t0 : BitVec 32)

/-- Words the body names: the label, whether the slot is a foreground one with a positive label, the slot numbers. -/
abbrev lab : FVec Ideal S256x1 .f32 := k2_pay27 (k2_pay14 x0 x1 x2) (iota Kind.tc S256x1 32 [0] iota_S256x1_d0_w32) (k2_pay25 (k2_pay15 x0 x1 x2)) k2_pay26
abbrev pos : IVec S256x1 1 := k2_pay28 (k2_pay14 x0 x1 x2) (iota Kind.tc S256x1 32 [0] iota_S256x1_d0_w32) (k2_pay25 (k2_pay15 x0 x1 x2)) k2_pay26

theorem lab_eq : lab x0 x1 x2 (ix2 s 0) = rowLabel s (D x0 x1 x2 s) := by
  pointwise [k2_pay27, k2_pay14, k2_pay15, k2_pay25, k2_pay26]
  simp only [pay7_eq]
  unfold rowLabel
  refine select_gate ((andi_eq_one _ _).trans (and_congr (Ideal.cmp_ogt_eq_one _ _) ?_)) _
  exact WordCmp.cmpi_slt_ofNat_eq_one_iff (a := s) (b := 64) (by omega) (by omega)

theorem pos_iff : pos x0 x1 x2 (ix2 s 0) = 1 ↔ 0 < rowLabel s (D x0 x1 x2 s) := by
  rw [← lab_eq]
  rw [← zero_eq]
  exact Ideal.cmp_ogt_eq_one _ _

theorem tx_eq : k2_pay21 (k2_pay8 x0 x1 x2) (k2_pay10 x0 x1 x2) (k2_pay12 x0 x1 x2) (k2_pay16 x0 x1 x2) k2_pay18 (ix2 s 0)
    = shift (D x0 x1 x2 s 0) (D x0 x1 x2 s 2) (D x0 x1 x2 s 4) (D x0 x1 x2 s 6) := by
  pointwise [k2_pay21, k2_pay8, k2_pay10, k2_pay12, k2_pay16, k2_pay18, k2_pay19]
  simp only [pay7_eq]
  unfold shift
  simp only [one_eq, zero_eq, sub_zero]
theorem ty_eq : k2_pay22 (k2_pay9 x0 x1 x2) (k2_pay11 x0 x1 x2) (k2_pay13 x0 x1 x2) (k2_pay17 x0 x1 x2) (ix2 s 0)
    = shift (D x0 x1 x2 s 1) (D x0 x1 x2 s 3) (D x0 x1 x2 s 5) (D x0 x1 x2 s 7) := by
  pointwise [k2_pay22, k2_pay9, k2_pay11, k2_pay13, k2_pay17, k2_pay20]
  simp only [pay7_eq]
  unfold shift
  simp only [one_eq, zero_eq, sub_zero]
theorem tw_eq : k2_pay23 (k2_pay10 x0 x1 x2) (k2_pay12 x0 x1 x2) (k2_pay16 x0 x1 x2) (ix2 s 0)
    = stretch (D x0 x1 x2 s 0) (D x0 x1 x2 s 2) (D x0 x1 x2 s 4) (D x0 x1 x2 s 6) := by
  pointwise [k2_pay23, k2_pay8, k2_pay10, k2_pay12, k2_pay16, k2_pay18, k2_pay19]
  simp only [pay7_eq]
  unfold stretch
  simp only [one_eq, zero_eq, sub_zero]
theorem th_eq : k2_pay24 (k2_pay11 x0 x1 x2) (k2_pay13 x0 x1 x2) (k2_pay17 x0 x1 x2) (ix2 s 0)
    = stretch (D x0 x1 x2 s 1) (D x0 x1 x2 s 3) (D x0 x1 x2 s 5) (D x0 x1 x2 s 7) := by
  pointwise [k2_pay24, k2_pay9, k2_pay11, k2_pay13, k2_pay17, k2_pay20]
  simp only [pay7_eq]
  unfold stretch
  simp only [one_eq, zero_eq, sub_zero]

variable (c : Dev nD) (i : grid2.Coords) (arg1 : Memref sig .tc .vmem S1x1x5120 .i32) (harg1 : arg1.IsWhole) (arg2 : Memref sig .tc .vmem S1x1x5120 .i32)
  (harg2 : arg2.IsWhole) (arg3 : Memref sig .tc .vmem S1x5120x10 .f32) (harg3 : arg3.IsWhole) (arg4 : Memref sig .tc .vmem S1x256x5 .f32) (harg4 : arg4.IsWhole)
  (arg5 : Memref sig .tc .vmem S1x256x1 .f32) (harg5 : arg5.IsWhole) (arg6 : Memref sig .tc .vmem S1x256x4 .f32) (harg6 : arg6.IsWhole)
  (arg7 : Memref sig .tc .vmem S1x256x4 .f32) (harg7 : arg7.IsWhole)

/-- The first output: the image's number and the box's corners. -/
theorem out3_head : out2_A_3 c i arg1 harg1 arg2 harg2 arg3 harg3 arg4 harg4 arg5 harg5 arg6 harg6 arg7 harg7 x0 x1 x2 (ix3 0 s 0)
    = FloatOps.sitofp (F := Ideal) .f32 (BitVec.ofNat 32 (i 0)) := by
  unfold out2_A_3
  rw [View.read_writes_junk_eq_canon]
  unfold kernelRun2_A
  dsimp only
  frame_out
  rw [canon_skip _ _ _ (2 : Fin 3) (by exact Or.inl (show (0 : ℕ) < 1 by decide))]
  rw [canon_hit _ _ _ (ix3 0 s 0) (fun a => by fin_cases a <;> simp [ix3])]
  pointwise [k2_pay30]
  rfl
theorem out3_tail (k : Fin 4) : out2_A_3 c i arg1 harg1 arg2 harg2 arg3 harg3 arg4 harg4 arg5 harg5 arg6 harg6 arg7 harg7 x0 x1 x2 (ix3 0 s k.succ)
    = D x0 x1 x2 s (k.castLE (by decide)) := by
  unfold out2_A_3
  rw [View.read_writes_junk_eq_canon]
  unfold kernelRun2_A
  dsimp only
  frame_out
  rw [canon_hit _ _ _ (ix3 0 s k) (fun a => by fin_cases a <;> simp [ix3]; omega)]
  pointwise [k2_pay31]
  rw [← pay7_eq]
  rfl

/-- The second output: the label. -/
theorem out4_eq : out2_A_4 c i arg1 harg1 arg2 harg2 arg3 harg3 arg4 harg4 arg5 harg5 arg6 harg6 arg7 harg7 x0 x1 x2 (ix3 0 s 0)
    = rowLabel s (D x0 x1 x2 s) := by
  unfold out2_A_4
  rw [View.read_writes_junk_eq_canon]
  unfold kernelRun2_A
  dsimp only
  frame_out
  rw [← lab_eq]
  pointwise [k2_pay32]

/-- A write to a later column does not matter at column `k`, and a write to column `k` is what is read there. -/
theorem col_skip {n : ℕ} (k : Fin 4) (inb : ∀ a, (![0, 0, n] : Fin 3 → ℕ) a + (![1, 256, 1] : Fin 3 → ℕ) a ≤ S1x256x4.size a)
    (w : (Rect.unit (s := S1x256x4) ![0, 0, n] ![1, 256, 1] inb).shape.Idx → Elt Ideal .f32)
    (L : List (View.Piece (Elt Ideal) S1x256x4 .f32)) (h : (k : ℕ) < n) :
    View.canon (⟨Rect.unit (s := S1x256x4) ![0, 0, n] ![1, 256, 1] inb, w⟩ :: L) (ix3 0 s k) = View.canon L (ix3 0 s k) :=
  canon_skip inb w L (2 : Fin 3) (Or.inl h)
theorem col_hit {n : ℕ} (k : Fin 4) (inb : ∀ a, (![0, 0, n] : Fin 3 → ℕ) a + (![1, 256, 1] : Fin 3 → ℕ) a ≤ S1x256x4.size a)
    (w : (Rect.unit (s := S1x256x4) ![0, 0, n] ![1, 256, 1] inb).shape.Idx → Elt Ideal .f32)
    (L : List (View.Piece (Elt Ideal) S1x256x4 .f32)) (h : (k : ℕ) = n) :
    View.canon (⟨Rect.unit (s := S1x256x4) ![0, 0, n] ![1, 256, 1] inb, w⟩ :: L) (ix3 0 s k) = w (ix3 0 s 0) := by
  subst h
  exact canon_hit inb w L (ix3 0 s 0) fun a => by fin_cases a <;> simp [ix3]

/-- The third output: the targets, where the label is positive. -/
theorem out5_eq (k : Fin 4) : out2_A_5 c i arg1 harg1 arg2 harg2 arg3 harg3 arg4 harg4 arg5 harg5 arg6 harg6 arg7 harg7 x0 x1 x2 (ix3 0 s k)
    = gate (0 < rowLabel s (D x0 x1 x2 s)) (target (fun a => D x0 x1 x2 s (a.castLE (by decide))) (fun a => D x0 x1 x2 s (a.natAdd 4 |>.castLE (by decide))) k) := by
  unfold out2_A_5
  rw [View.read_writes_junk_eq_canon]
  unfold kernelRun2_A
  dsimp only
  frame_out
  fin_cases k <;> simp (disch := decide) only [col_skip, col_hit]
  · pointwise [k2_pay33]
    rw [tx_eq]
    exact select_gate (pos_iff x0 x1 x2 s) _
  · pointwise [k2_pay34]
    rw [ty_eq]
    exact select_gate (pos_iff x0 x1 x2 s) _
  · pointwise [k2_pay35, k2_pay1]
    rw [tw_eq]
    exact select_gate (pos_iff x0 x1 x2 s) _
  · pointwise [k2_pay2]
    rw [th_eq]
    exact select_gate (pos_iff x0 x1 x2 s) _

/-- The fourth output: one, where the label is positive. -/
theorem out6_eq (k : Fin 4) : out2_A_6 c i arg1 harg1 arg2 harg2 arg3 harg3 arg4 harg4 arg5 harg5 arg6 harg6 arg7 harg7 x0 x1 x2 (ix3 0 s k)
    = gate (0 < rowLabel s (D x0 x1 x2 s)) 1 := by
  unfold out2_A_6
  rw [View.read_writes_junk_eq_canon]
  unfold kernelRun2_A
  dsimp only
  frame_out
  fin_cases k <;> simp (disch := decide) only [col_skip, col_hit]
  · pointwise [k2_pay3]
    exact bit_gate (pos_iff x0 x1 x2 s)
  · pointwise [k2_pay4]
    exact bit_gate (pos_iff x0 x1 x2 s)
  · pointwise [k2_pay5]
    exact bit_gate (pos_iff x0 x1 x2 s)
  · pointwise [k2_pay6]
    exact bit_gate (pos_iff x0 x1 x2 s)

end Gather

end Cert.Roi

end
-- ==== Proof.Region2.lean ====
/- The third kernel's four result arrays, read off every slot's data row. -/
module

public import proofs.«01_k».proof.Proof.GatherBlock

@[expose] public section

set_option maxRecDepth 16384

noncomputable section

namespace Cert.Roi.Gather

open Idealize.ShloMosaic Idealize.ShloMosaic.TcCoe Cert.KernelIdeal Cert.KernelIdeal.Gen Cert.Roi

variable (V : (c : Dev nD) → (b : Ref sig .tc) → Buf (Elt Ideal) ((c : Thread nD τ).loc b)) (c : Dev nD)

/-- The data row of slot `s` of image `b`. -/
def slot (A B : Vec Ideal S2x1x5120 .i32) (X : Vec Ideal S2x5120x10 .f32) (b : Fin 2) (s : Fin 256) : Fin 10 → EReal :=
  dataRow (fun n => A (ix3 b 0 n)) (fun n => B (ix3 b 0 n)) (fun n k => X (ix3 b n k)) s

/-- What is read off a slot's row `D`: the box's corners, the row's corners. -/
def box (D : Fin 10 → EReal) (k : Fin 4) : EReal := D (k.castLE (by decide))
def gtBox (D : Fin 10 → EReal) (k : Fin 4) : EReal := D ((k.natAdd 4).castLE (by decide))

/-- The four arrays. -/
def rois (A B : Vec Ideal S2x1x5120 .i32) (X : Vec Ideal S2x5120x10 .f32) : Vec Ideal S2x256x5 .f32 := fun j =>
  Fin.cases (motive := fun _ => EReal) (FloatOps.sitofp (F := Ideal) .f32 (BitVec.ofNat 32 (j 0 : Fin 2))) (box (slot A B X (j 0) (j 1))) (j 2 : Fin 5)
def labels (A B : Vec Ideal S2x1x5120 .i32) (X : Vec Ideal S2x5120x10 .f32) : Vec Ideal S2x256x1 .f32 := fun j =>
  rowLabel (j 1 : Fin 256) (slot A B X (j 0) (j 1))
def targets (A B : Vec Ideal S2x1x5120 .i32) (X : Vec Ideal S2x5120x10 .f32) : Vec Ideal S2x256x4 .f32 := fun j =>
  gate (0 < rowLabel (j 1 : Fin 256) (slot A B X (j 0) (j 1))) (target (box (slot A B X (j 0) (j 1))) (gtBox (slot A B X (j 0) (j 1))) (j 2))
def weights (A B : Vec Ideal S2x1x5120 .i32) (X : Vec Ideal S2x5120x10 .f32) : Vec Ideal S2x256x4 .f32 := fun j =>
  gate (0 < rowLabel (j 1 : Fin 256) (slot A B X (j 0) (j 1))) 1

theorem idx2 : ∀ t : Fin grid2.N, (cfg2.win 0).index t = ![(grid2.coords t 0).val, 0, 0] ∧ (cfg2.win 1).index t = ![(grid2.coords t 0).val, 0, 0]
    ∧ (cfg2.win 2).index t = ![(grid2.coords t 0).val, 0, 0] ∧ (cfg2.win 3).index t = ![(grid2.coords t 0).val, 0, 0]
    ∧ (cfg2.win 4).index t = ![(grid2.coords t 0).val, 0, 0] ∧ (cfg2.win 5).index t = ![(grid2.coords t 0).val, 0, 0]
    ∧ (cfg2.win 6).index t = ![(grid2.coords t 0).val, 0, 0] := by
  decide +kernel

/-- The row the body forms at grid point `t` is the image's. -/
theorem slot_eq (t : Fin cfg2.N) (s : Fin 256) : D (iblk2 V c 0 t) (iblk2 V c 1 t) (iblk2 V c 2 t) s
    = slot (V c (Pipeline.arrRef spec2 0)) (V c (Pipeline.arrRef spec2 1)) (V c (Pipeline.arrRef spec2 2)) (grid2.coords t 0) s := by
  have h0 : ∀ n, iblk2 V c 0 t (ix3 0 0 n) = V c (Pipeline.arrRef spec2 0) (ix3 (grid2.coords t 0) 0 n) := fun n => by blk_ext [iblk2, idx2 t]
  have h1 : ∀ n, iblk2 V c 1 t (ix3 0 0 n) = V c (Pipeline.arrRef spec2 1) (ix3 (grid2.coords t 0) 0 n) := fun n => by blk_ext [iblk2, idx2 t]
  have h2 : ∀ n k, iblk2 V c 2 t (ix3 0 n k) = V c (Pipeline.arrRef spec2 2) (ix3 (grid2.coords t 0) n k) := fun n k => by blk_ext [iblk2, idx2 t]
  unfold slot
  funext k
  unfold D
  simp only [h0, h1, h2]

theorem arr3_eq : (dat2 V c).arrAt 3 cfg2.N = rois (V c (Pipeline.arrRef spec2 0)) (V c (Pipeline.arrRef spec2 1)) (V c (Pipeline.arrRef spec2 2)) := by
  refine (dat2 V c).arrAt_eq_of_covers 3 _ (by decide +kernel) fun t hf y => ?_
  blk_simp
  rw [after2_3]
  unfold outsAt2
  dsimp only
  idx_vars y
  obtain rfl : y0 = 0 := Subsingleton.elim _ _
  have e : ((View.whole main_v0_0).slice (win2_3.rect t)).emb (ix3 0 y1 y2) = ix3 (grid2.coords t 0) y1 y2 := by
    blk_ext [idx2 t]
  have hD := slot_eq V c t y1
  refine Eq.trans ?_ (congrArg (rois (V c (Pipeline.arrRef spec2 0)) (V c (Pipeline.arrRef spec2 1)) (V c (Pipeline.arrRef spec2 2))) e.symm)
  induction y2 using Fin.cases with
  | zero => exact out3_head _ _ _ y1 _ _ _ _ _ _ _ _ _ _ _ _ _ _ _ _
  | succ k => exact (out3_tail _ _ _ y1 _ _ _ _ _ _ _ _ _ _ _ _ _ _ _ _ k).trans (congrFun hD _)

theorem arr4_eq : (dat2 V c).arrAt 4 cfg2.N = labels (V c (Pipeline.arrRef spec2 0)) (V c (Pipeline.arrRef spec2 1)) (V c (Pipeline.arrRef spec2 2)) := by
  refine (dat2 V c).arrAt_eq_of_covers 4 _ (by decide +kernel) fun t hf y => ?_
  blk_simp
  rw [after2_4]
  unfold outsAt2
  dsimp only
  idx_vars y
  obtain rfl : y0 = 0 := Subsingleton.elim _ _
  obtain rfl : y2 = 0 := Subsingleton.elim _ _
  have e : ((View.whole main_call0_v24_1).slice (win2_4.rect t)).emb (ix3 0 y1 0) = ix3 (grid2.coords t 0) y1 0 := by
    blk_ext [idx2 t]
  have hD := slot_eq V c t y1
  refine Eq.trans ?_ (congrArg (labels (V c (Pipeline.arrRef spec2 0)) (V c (Pipeline.arrRef spec2 1)) (V c (Pipeline.arrRef spec2 2))) e.symm)
  exact (out4_eq _ _ _ y1 _ _ _ _ _ _ _ _ _ _ _ _ _ _ _ _).trans (congrArg (rowLabel y1) hD)

theorem arr5_eq : (dat2 V c).arrAt 5 cfg2.N = targets (V c (Pipeline.arrRef spec2 0)) (V c (Pipeline.arrRef spec2 1)) (V c (Pipeline.arrRef spec2 2)) := by
  refine (dat2 V c).arrAt_eq_of_covers 5 _ (by decide +kernel) fun t hf y => ?_
  blk_simp
  rw [after2_5]
  unfold outsAt2
  dsimp only
  idx_vars y
  obtain rfl : y0 = 0 := Subsingleton.elim _ _
  have e : ((View.whole main_v0_6).slice (win2_5.rect t)).emb (ix3 0 y1 y2) = ix3 (grid2.coords t 0) y1 y2 := by
    blk_ext [idx2 t]
  have hD := slot_eq V c t y1
  refine Eq.trans ?_ (congrArg (targets (V c (Pipeline.arrRef spec2 0)) (V c (Pipeline.arrRef spec2 1)) (V c (Pipeline.arrRef spec2 2))) e.symm)
  exact (out5_eq _ _ _ y1 _ _ _ _ _ _ _ _ _ _ _ _ _ _ _ _ y2).trans
    (congrArg (fun D : Fin 10 → EReal => gate (0 < rowLabel y1 D) (target (box D) (gtBox D) y2)) hD)

theorem arr6_eq : (dat2 V c).arrAt 6 cfg2.N = weights (V c (Pipeline.arrRef spec2 0)) (V c (Pipeline.arrRef spec2 1)) (V c (Pipeline.arrRef spec2 2)) := by
  refine (dat2 V c).arrAt_eq_of_covers 6 _ (by decide +kernel) fun t hf y => ?_
  blk_simp
  rw [after2_6]
  unfold outsAt2
  dsimp only
  idx_vars y
  obtain rfl : y0 = 0 := Subsingleton.elim _ _
  have e : ((View.whole main_v0_7).slice (win2_6.rect t)).emb (ix3 0 y1 y2) = ix3 (grid2.coords t 0) y1 y2 := by
    blk_ext [idx2 t]
  have hD := slot_eq V c t y1
  refine Eq.trans ?_ (congrArg (weights (V c (Pipeline.arrRef spec2 0)) (V c (Pipeline.arrRef spec2 1)) (V c (Pipeline.arrRef spec2 2))) e.symm)
  exact (out6_eq _ _ _ y1 _ _ _ _ _ _ _ _ _ _ _ _ _ _ _ _ y2).trans
    (congrArg (fun D : Fin 10 → EReal => gate (0 < rowLabel y1 D) 1) hD)

end Cert.Roi.Gather

end
-- ==== Proof.KernelRows.lean ====
/- What the third kernel is given: for every image, the ranks of all boxes by both scores, and every box's data row. -/
module

public import proofs.«01_k».proof.Proof.IdealFrame
public import proofs.«01_k».proof.Proof.Host
public import proofs.«01_k».proof.Proof.Slots
public import proofs.«01_k».proof.Proof.Region1
public import proofs.«01_k».proof.Proof.Region2

@[expose] public section

set_option maxRecDepth 16384

noncomputable section

namespace Cert.Roi.Kern

open Idealize.ShloMosaic Idealize.ShloMosaic.TcCoe Cert.KernelIdeal Cert.KernelIdeal.Gen Cert.Roi

variable (m : (ℓ : Loc nD τ sig) → Buf (Elt Ideal) ℓ) (ρ : Dev nD → PrngReg) (c : Dev nD) (b : Fin 2)

/-- The two arguments, at image `b`. -/
abbrev A : Fin 5000 → Fin 5 → EReal := Host.A (W0 m ρ c) b
abbrev G : Fin 20 → Fin 5 → EReal := Host.G (W0 m ρ c) b

/-- The first kernel's results: channel `ch` of box `n`. -/
def chan (ch : Fin 8) (n : Fin 5120) : EReal := W2 m ρ c (Proc.devRef .tc main_call0_v6) (ix4 b ch ⟨n / 128, by omega⟩ ⟨n % 128, by omega⟩)

/-- The box the first kernel reads at place `n`, and the ground-truth rows it reads. -/
def boxAt (n : Fin 5120) (k : Fin 4) : EReal := W1 m ρ c (Proc.devRef .tc main_call0_v3) (ix3 b n k)

theorem boxAt_eq (p : Fin 5020) : boxAt m ρ c b (p.castLE (by decide)) = cand (A m ρ c b) (G m ρ c b) p :=
  funext fun k => Host.v3_eq (W0 m ρ c) b p k

theorem chan_eq (ch : Fin 8) (n : Fin 5120) : chan m ρ c b ch n = rowOut ((n : ℕ) < 5020) (scan (boxAt m ρ c b n) (G m ρ c b)) ch := by
  have h1 : W2 m ρ c (Proc.devRef .tc main_call0_v6) = Iou.arr (Iou.boxes (V1 m ρ) c) (Iou.truths (V1 m ρ) c) :=
    (W2_arr m ρ c 2).trans (Iou.arr_eq (V1 m ρ) c)
  have hb : (fun k => Iou.boxes (V1 m ρ) c (ix4 b k ⟨n / 128, by omega⟩ ⟨n % 128, by omega⟩)) = boxAt m ρ c b n := by
    funext k
    refine (Host.v5_eq (W0 m ρ c) b k ⟨n / 128, by omega⟩ ⟨n % 128, by omega⟩).trans ?_
    unfold boxAt
    congr 2
    exact Fin.ext (Nat.div_add_mod' n 128)
  have hg : (fun g k => Iou.truths (V1 m ρ) c (ix3 b g k)) = G m ρ c b := by
    funext g k
    exact congrFun (W1_of m ρ c main_arg1 (by decide)) (ix3 b g k)
  have hr : Iou.real ⟨n / 128, by omega⟩ ⟨n % 128, by omega⟩ = ((n : ℕ) < 5020) := by
    show (((n : ℕ) / 128) * 128 + (n : ℕ) % 128 < 5020) = _
    rw [Nat.div_add_mod']
  refine (congrFun h1 (ix4 b ch ⟨n / 128, by omega⟩ ⟨n % 128, by omega⟩)).trans ?_
  show rowOut (Iou.real ⟨n / 128, by omega⟩ ⟨n % 128, by omega⟩) (scan (fun k => Iou.boxes (V1 m ρ) c (ix4 b k ⟨n / 128, by omega⟩ ⟨n % 128, by omega⟩))
    (fun g k => Iou.truths (V1 m ρ) c (ix3 b g k))) ch = _
  rw [hb, hg, hr]

/-- The scores of the real boxes, and of the padding. -/
theorem fg_real (p : Fin 5020) : chan m ρ c b 0 (p.castLE (by decide)) = fgScore True (best (cand (A m ρ c b) (G m ρ c b) p) (G m ρ c b)) := by
  rw [chan_eq, boxAt_eq]
  show fgScore ((p : ℕ) < 5020) (scan _ _).1 = _
  rw [(scan_spec _ _).1, fgScore_max, eq_true p.isLt]
theorem bg_real (p : Fin 5020) : chan m ρ c b 1 (p.castLE (by decide)) = bgScore True (best (cand (A m ρ c b) (G m ρ c b) p) (G m ρ c b)) := by
  rw [chan_eq, boxAt_eq]
  show bgScore ((p : ℕ) < 5020) (scan _ _).1 = _
  rw [(scan_spec _ _).1, bgScore_max, eq_true p.isLt]
theorem fg_pad (n : Fin 5120) (h : 5020 ≤ (n : ℕ)) : chan m ρ c b 0 n = ⊥ := by
  rw [chan_eq, ← negInf_eq]
  exact if_neg fun k => not_lt.mpr h k.1
theorem bg_pad (n : Fin 5120) (h : 5020 ≤ (n : ℕ)) : chan m ρ c b 1 n = ⊥ := by
  rw [chan_eq, ← negInf_eq]
  exact if_neg fun k => not_lt.mpr h k.1.1

/-- The ranks the third kernel reads. -/
theorem v22_eq (n : Fin 5120) : V5 m ρ c main_call0_v22 (ix3 b 0 n) = BitVec.ofNat 32 (count (chan m ρ c b 0) (chan m ρ c b 0 n) n) := by
  refine (Host.v22_eq (W4 m ρ c) b n).trans ?_
  refine (congrFun ((W4_arr m ρ c 4).trans (Rank.arr4_eq (V3 m ρ) c)) (ix3 b n 0)).trans ?_
  have h0 : (fun n => V3 m ρ c (Pipeline.arrRef spec1 0) (ix3 b 0 n)) = chan m ρ c b 0 := funext fun n => Host.v13_eq (W2 m ρ c) b n
  have h1 : V3 m ρ c (Pipeline.arrRef spec1 2) (ix3 b n 0) = chan m ρ c b 0 n := Host.v15_eq (W2 m ρ c) b n
  exact congrArg₂ (fun f x => BitVec.ofNat 32 (count f x n)) h0 h1

theorem v23_eq (n : Fin 5120) : V5 m ρ c main_call0_v23 (ix3 b 0 n) = BitVec.ofNat 32 (count (chan m ρ c b 1) (chan m ρ c b 1 n) n) := by
  refine (Host.v23_eq (W4 m ρ c) b n).trans ?_
  refine (congrFun ((W4_arr m ρ c 5).trans (Rank.arr5_eq (V3 m ρ) c)) (ix3 b n 0)).trans ?_
  have h0 : (fun n => V3 m ρ c (Pipeline.arrRef spec1 1) (ix3 b 0 n)) = chan m ρ c b 1 := funext fun n => Host.v14_eq (W2 m ρ c) b n
  have h1 : V3 m ρ c (Pipeline.arrRef spec1 3) (ix3 b n 0) = chan m ρ c b 1 n := Host.v16_eq (W2 m ρ c) b n
  exact congrArg₂ (fun f x => BitVec.ofNat 32 (count f x n)) h0 h1

/-- The data rows it reads. -/
theorem v21_head (n : Fin 5120) (k : Fin 4) : V5 m ρ c main_call0_v21 (ix3 b n (k.castLE (by decide))) = boxAt m ρ c b n k := by
  refine (Host.v21_head (W4 m ρ c) b n k).trans ?_
  have e : W4 m ρ c (Proc.devRef .tc main_call0_v3) = W1 m ρ c (Proc.devRef .tc main_call0_v3) :=
    (W4_of_ne m ρ c main_call0_v3 (by decide)).trans ((W3_of m ρ c main_call0_v3 (by decide)).trans (W2_of_ne m ρ c main_call0_v3 (by decide)))
  exact congrFun e (ix3 b n k)

theorem v21_tail (n : Fin 5120) (k : Fin 6) : V5 m ρ c main_call0_v21 (ix3 b n (k.natAdd 4)) = chan m ρ c b (k.natAdd 2) n := by
  refine (Host.v21_tail (W4 m ρ c) b n k).trans ?_
  have e : W4 m ρ c (Proc.devRef .tc main_call0_v6) = W2 m ρ c (Proc.devRef .tc main_call0_v6) :=
    (W4_of_ne m ρ c main_call0_v6 (by decide)).trans (W3_of m ρ c main_call0_v6 (by decide))
  exact congrFun e (ix4 b (k.natAdd 2) ⟨n / 128, by omega⟩ ⟨n % 128, by omega⟩)

/-- Each slot's row of the third kernel. -/
abbrev row (s : Fin 256) : Fin 10 → EReal := Gather.slot (V5 m ρ c main_call0_v22) (V5 m ρ c main_call0_v23) (V5 m ρ c main_call0_v21) b s

theorem row_eq (s : Fin 256) (p : Fin 5020)
    (hp : (s : ℕ) < 64 → rank (fun n => fgScore True (best (cand (A m ρ c b) (G m ρ c b) n) (G m ρ c b))) p = s)
    (hp' : 64 ≤ (s : ℕ) → rank (fun n => bgScore True (best (cand (A m ρ c b) (G m ρ c b) n) (G m ρ c b))) p = s - 64) :
    IsRow (A m ρ c b) (G m ρ c b) p (row m ρ c b s) := by
  have e : row m ρ c b s = fun k => V5 m ρ c main_call0_v21 (ix3 b (p.castLE (by decide)) k) := by
    funext k
    show dataRow (fun n => V5 m ρ c main_call0_v22 (ix3 b 0 n)) (fun n => V5 m ρ c main_call0_v23 (ix3 b 0 n)) (fun n k => V5 m ρ c main_call0_v21 (ix3 b n k)) s k = _
    rw [funext (v22_eq m ρ c b), funext (v23_eq m ρ c b)]
    exact dataRow_eq _ _ (chan m ρ c b 0) (chan m ρ c b 1) (fun n k => V5 m ρ c main_call0_v21 (ix3 b n k)) (fg_real m ρ c b) (fg_pad m ρ c b)
      (bg_real m ρ c b) (bg_pad m ρ c b) s s.isLt p hp hp' k
  have ht : ∀ k : Fin 6, row m ρ c b s ((k.natAdd 4).castLE (by decide))
      = rowOut True (scan (cand (A m ρ c b) (G m ρ c b) p) (G m ρ c b)) (k.natAdd 2) := fun k => by
    rw [e]
    refine (v21_tail m ρ c b (p.castLE (by decide)) k).trans ?_
    rw [chan_eq, boxAt_eq]
    show rowOut ((p : ℕ) < 5020) _ _ = _
    rw [eq_true p.isLt]
  refine ⟨fun k => ?_, fun k => ?_, ht 5⟩
  · rw [e]
    exact (v21_head m ρ c b (p.castLE (by decide)) k).trans (congrFun (boxAt_eq m ρ c b p) k)
  · refine (ht (k.castLE (by decide))).trans ?_
    fin_cases k <;> rfl

end Cert.Roi.Kern

end
-- ==== Proof.RefBest.lean ====
/- What the reference computes up to the scores: the candidate boxes, every overlap, each box's best one, the scores. -/
module

public import proofs.«01_k».proof.Proof.ReferenceOps
public import proofs.«01_k».proof.Proof.Rows
public import proofs.«01_k».proof.Proof.Order
public import Idealize.ShloMosaic.Lib.Pipeline.ValueKit
public import Idealize.ShloMosaic.Lib.WordCmp

@[expose] public section

set_option maxRecDepth 16384

noncomputable section

namespace Cert.Roi.Ref

open Idealize.ShloMosaic Idealize.ShloMosaic.TcCoe Cert.ReferenceIdeal Cert.ReferenceIdeal.Value Cert.Roi

variable (V0 : Valuation τ sig (Elt Ideal)) (b : Fin 2)

/-- The two arguments, at image `b`. -/
def A (n : Fin 5000) (k : Fin 5) : EReal := V0 (Proc.devRef .tc main_arg0) (ix3 b n k)
def G (g : Fin 20) (k : Fin 5) : EReal := V0 (Proc.devRef .tc main_arg1) (ix3 b g k)

abbrev box (n : Fin 5020) : Fin 4 → EReal := cand (A V0 b) (G V0 b) n

theorem v4_eq (n : Fin 5020) (k : Fin 4) : res_main_v4 V0 (ix3 b n k) = box V0 b n k := by
  pointwise [res_main_v4]
  unfold box cand
  by_cases h : (n : ℕ) < 5000
  · rw [dif_pos h, dif_pos h]
    unfold A
    congr 2
    exact Fin.ext (Nat.add_comm 1 k)
  · rw [dif_neg h, dif_neg h]
    rfl

theorem v56_eq (n : Fin 5020) (g : Fin 20) : res_main_v56 V0 (ix3 b n g) = ov (box V0 b n) (G V0 b g) := by
  pointwise [res_main_v56, res_main_v54, res_main_v51, res_main_v46, res_main_v42, res_main_v40, res_main_v36, res_main_v33, res_main_v29, res_main_v26, res_main_v20, res_main_v15, res_main_v13, res_main_v10, res_main_v8, res_main_v5]
  simp only [v4_eq]
  unfold ov overlap area
  simp only [one_eq, zero_eq, max_comm (0 : EReal)]
  rfl

/-- The reduction over the last axis runs over the entries of its own row. -/
theorem drop_iff (i : S2x5020x20.Idx) (n : Fin 5020) : Gen.reducesTo_S2x5020x20_S2x5020_d2.drop i = ix2 b n ↔ i = ix3 b n (i 2) := by
  idx_vars i
  constructor
  · intro h
    have h0 : i0 = b := congrFun h 0
    have h1 : i1 = n := congrFun h 1
    rw [h0, h1]
    rfl
  · intro h
    have h0 : i0 = b := congrFun h 0
    have h1 : i1 = n := congrFun h 1
    rw [h0, h1]
    funext a
    fin_cases a <;> rfl

theorem max_last (X : S2x5020x20.Idx → EReal) (n : Fin 5020) :
    Host.reduce (FloatOps.maximumf (F := Ideal) (φ := .f32)) X (constant (F := Ideal) S_ .f32 0xFF800000#32) Gen.reducesTo_S2x5020x20_S2x5020_d2 Gen.h_S_ (ix2 b n)
      = (Finset.univ : Finset (Fin 20)).fold max ⊥ fun g => X (ix3 b n g) := by
  rw [Host.reduce_eq_fold]
  rw [show constant (F := Ideal) S_ .f32 0xFF800000#32 (Shape.Idx.first Gen.h_S_) = (⊥ : EReal) from negInf_eq]
  refine le_antisymm (α := EReal) ((Finset.fold_max_le (β := EReal) _).mpr ⟨bot_le, fun i hi => ?_⟩) ((Finset.fold_max_le (β := EReal) _).mpr ⟨bot_le, fun g _ => ?_⟩)
  · have e := (drop_iff b i n).mp (Finset.mem_filter.mp hi).2
    exact (Finset.le_fold_max (β := EReal) _).mpr (Or.inr ⟨i 2, Finset.mem_univ _, (congrArg X e).le⟩)
  · exact (Finset.le_fold_max (β := EReal) _).mpr (Or.inr ⟨ix3 b n g, Finset.mem_filter.mpr ⟨Finset.mem_univ _, (drop_iff b _ n).mpr rfl⟩, le_refl _⟩)

theorem v57_eq (n : Fin 5020) : res_main_v57 V0 (ix2 b n) = best (box V0 b n) (G V0 b) := by
  unfold res_main_v57
  refine (max_last b (res_main_v56 V0) n).trans ?_
  simp only [v56_eq]
  rfl

theorem bit_cases : ∀ c : BitVec 1, c = 0 ∨ c = 1 := by decide

/-- The pair fold's state after the entries `D`: a value no entry exceeds, and the least position of those that reach it. -/
def Holds (o : Fin 20 → EReal) (D : Fin 20 → Prop) (s : EReal × BitVec 32) : Prop :=
  ∃ g : Fin 20, s.2 = BitVec.ofNat 32 g ∧ (∀ h, D h → o h < s.1 ∨ o h = s.1 ∧ g ≤ h) ∧ (s.1 = ⊥ ∨ o g = s.1)

theorem reducer_step (o : Fin 20 → EReal) (D : Fin 20 → Prop) (s : EReal × BitVec 32) (n : Fin 20) (hs : Holds o D s) :
    Holds o (fun h => D h ∨ h = n) (reducer_argmax_f32_i32 (F := Ideal) s (o n, BitVec.ofNat 32 n)) := by
  obtain ⟨v, i⟩ := s
  obtain ⟨g, rfl, h1, h2⟩ := hs
  simp only at h1 h2
  have hne : Ideal.cmp .une v v = 0 := (bit_ne_one_iff _).mp fun k => by simp [Ideal.cmp] at k
  rcases lt_trichotomy v (o n) with k | k | k
  · have e : reducer_argmax_f32_i32 (F := Ideal) (v, BitVec.ofNat 32 g) (o n, BitVec.ofNat 32 n) = (o n, BitVec.ofNat 32 n) := by
      have c1 : Ideal.cmp .ogt v (o n) = 0 := (bit_ne_one_iff _).mp fun q => lt_asymm k ((Ideal.cmp_ogt_eq_one _ _).mp q)
      have c2 : Ideal.cmp .oeq v (o n) = 0 := (bit_ne_one_iff _).mp fun q => k.ne ((Ideal.cmp_oeq_eq_one _ _).mp q)
      unfold reducer_argmax_f32_i32
      dsimp only
      simp only [Ideal.cmpf_def, c1, c2, hne]
      generalize IntOp.cmpi _ _ _ = c
      rcases bit_cases c with rfl | rfl <;> rfl
    rw [e]
    refine ⟨n, rfl, fun h hh => ?_, Or.inr rfl⟩
    rcases hh with hh | rfl
    · rcases h1 h hh with q | q
      · exact Or.inl (q.trans k)
      · exact Or.inl (q.1 ▸ k)
    · exact Or.inr ⟨rfl, le_refl _⟩
  · have c1 : Ideal.cmp .ogt v (o n) = 0 := (bit_ne_one_iff _).mp fun q => k.not_gt ((Ideal.cmp_ogt_eq_one _ _).mp q)
    have c2 : Ideal.cmp .oeq v (o n) = 1 := (Ideal.cmp_oeq_eq_one _ _).mpr k
    by_cases q : g < n
    · have e : reducer_argmax_f32_i32 (F := Ideal) (v, BitVec.ofNat 32 g) (o n, BitVec.ofNat 32 n) = (v, BitVec.ofNat 32 g) := by
        have c3 : IntOp.cmpi .slt (BitVec.ofNat 32 g) (BitVec.ofNat 32 n) = 1 := (WordCmp.cmpi_slt_ofNat_eq_one_iff (by omega) (by omega)).mpr q
        unfold reducer_argmax_f32_i32
        dsimp only
        simp only [Ideal.cmpf_def, c1, c2, hne, c3]
        exact Prod.ext k.symm rfl
      rw [e]
      refine ⟨g, rfl, fun h hh => ?_, h2⟩
      rcases hh with hh | rfl
      · exact h1 h hh
      · exact Or.inr ⟨k.symm, q.le⟩
    · have e : reducer_argmax_f32_i32 (F := Ideal) (v, BitVec.ofNat 32 g) (o n, BitVec.ofNat 32 n) = (o n, BitVec.ofNat 32 n) := by
        have c3 : IntOp.cmpi .slt (BitVec.ofNat 32 g) (BitVec.ofNat 32 n) = 0 :=
          (bit_ne_one_iff _).mp fun p => q ((WordCmp.cmpi_slt_ofNat_eq_one_iff (by omega) (by omega)).mp p)
        unfold reducer_argmax_f32_i32
        dsimp only
        simp only [Ideal.cmpf_def, c1, c2, hne, c3]
        rfl
      rw [e]
      refine ⟨n, rfl, fun h hh => ?_, Or.inr rfl⟩
      rcases hh with hh | rfl
      · rcases h1 h hh with p | p
        · exact Or.inl (k ▸ p)
        · exact Or.inr ⟨p.1.trans k, (not_lt.mp q).trans p.2⟩
      · exact Or.inr ⟨rfl, le_refl _⟩
  · have e : reducer_argmax_f32_i32 (F := Ideal) (v, BitVec.ofNat 32 g) (o n, BitVec.ofNat 32 n) = (v, BitVec.ofNat 32 g) := by
      have c1 : Ideal.cmp .ogt v (o n) = 1 := (Ideal.cmp_ogt_eq_one _ _).mpr k
      have c2 : Ideal.cmp .oeq v (o n) = 0 := (bit_ne_one_iff _).mp fun q => k.ne' ((Ideal.cmp_oeq_eq_one _ _).mp q)
      unfold reducer_argmax_f32_i32
      dsimp only
      simp only [Ideal.cmpf_def, c1, c2, hne]
      generalize IntOp.cmpi _ _ _ = c
      rcases bit_cases c with rfl | rfl <;> rfl
    rw [e]
    refine ⟨g, rfl, fun h hh => ?_, h2⟩
    rcases hh with hh | rfl
    · exact h1 h hh
    · exact Or.inl k

theorem reducer_fold (o : Fin 20 → EReal) (l : List (Fin 20)) (D : Fin 20 → Prop) (s : EReal × BitVec 32) (hs : Holds o D s) :
    Holds o (fun h => D h ∨ h ∈ l) ((l.map fun g => ((o g, BitVec.ofNat 32 g) : EReal × BitVec 32)).foldl (reducer_argmax_f32_i32 (F := Ideal)) s) := by
  induction l generalizing D s with
  | nil =>
    obtain ⟨g, a, b, c⟩ := hs
    exact ⟨g, a, fun h hh => b h (hh.resolve_right List.not_mem_nil), c⟩
  | cons n l ih =>
    rw [List.map_cons, List.foldl_cons]
    obtain ⟨g, a, b, c⟩ := ih _ _ (reducer_step o D s n hs)
    refine ⟨g, a, fun h hh => b h ?_, c⟩
    rcases hh with hh | hh
    · exact Or.inl (Or.inl hh)
    · rcases List.mem_cons.mp hh with rfl | hh
      · exact Or.inl (Or.inr rfl)
      · exact Or.inr hh

/-- The pair fold over a row picks the first of its largest entries. -/
theorem argmax_last (X : S2x5020x20.Idx → EReal) (n : Fin 5020) : ∃ g : Fin 20,
    (Host.argReduce (F := Ideal) (φ := .f32) (reducer_argmax_f32_i32 (F := Ideal)) X (iotaInDim S2x5020x20 32 2) (constant (F := Ideal) S_ .f32 0xFF800000#32) (constantI S_ 32 0#32)
      Gen.reducesTo_S2x5020x20_S2x5020_d2 Gen.h_S_ (ix2 b n)).2 = BitVec.ofNat 32 g ∧
    (⊥ < (Finset.univ : Finset (Fin 20)).fold max ⊥ (fun g => X (ix3 b n g)) →
      First (fun g : Fin 20 => X (ix3 b n g)) ((Finset.univ : Finset (Fin 20)).fold max ⊥ fun g => X (ix3 b n g)) g) := by
  rw [Ideal.argReduce_eq_reduce2, Host.reduce2_eq_foldl_fiber]
  let K : List (Fin 20) := ((List.finRange S2x5020x20.numel).filter fun m => Gen.reducesTo_S2x5020x20_S2x5020_d2.drop (S2x5020x20.rowMajor.symm m) = ix2 b n).map
        fun m => (S2x5020x20.rowMajor.symm m 2 : Fin 20)
  have e : Host.argReduceFiber X (iotaInDim S2x5020x20 32 2) Gen.reducesTo_S2x5020x20_S2x5020_d2 (ix2 b n)
      = K.map fun g => ((X (ix3 b n g), BitVec.ofNat 32 g) : EReal × BitVec 32) := by
    unfold Host.argReduceFiber
    refine Eq.trans ?_ (List.map_map).symm
    refine List.map_congr_left fun m hm => ?_
    have hd := (drop_iff b _ n).mp (of_decide_eq_true (List.mem_filter.mp hm).2)
    exact Prod.ext (congrArg X hd) rfl
  rw [e]
  obtain ⟨g, h1, h2, h3⟩ := reducer_fold (fun g => X (ix3 b n g)) K (fun _ => False) (⊥, 0#32) ⟨0, rfl, fun _ h => h.elim, Or.inl rfl⟩
  have hinit : (constant (F := Ideal) S_ .f32 0xFF800000#32 (Shape.Idx.first Gen.h_S_), constantI S_ 32 0#32 (Shape.Idx.first Gen.h_S_)) = ((⊥, 0#32) : EReal × BitVec 32) :=
    Prod.ext negInf_eq rfl
  rw [hinit]
  generalize List.foldl _ _ _ = s at h1 h2 h3 ⊢
  have hall : ∀ h : Fin 20, X (ix3 b n h) < s.1 ∨ X (ix3 b n h) = s.1 ∧ g ≤ h := fun h => h2 h (Or.inr (by
    refine List.mem_map.mpr ⟨S2x5020x20.rowMajor (ix3 b n h), List.mem_filter.mpr ⟨List.mem_finRange _, ?_⟩, ?_⟩
    · rw [Equiv.symm_apply_apply]
      exact decide_eq_true ((drop_iff b _ n).mpr rfl)
    · rw [Equiv.symm_apply_apply]
      rfl))
  have hle : ((Finset.univ : Finset (Fin 20)).fold max ⊥ fun g => X (ix3 b n g)) ≤ s.1 := (Finset.fold_max_le (β := EReal) _).mpr ⟨bot_le, fun h _ => (hall h).elim (·.le) (·.1.le)⟩
  refine ⟨g, h1, fun hb => ?_⟩
  have hg : X (ix3 b n g) = s.1 := h3.resolve_left (hb.trans_le hle).ne'
  have hm : ((Finset.univ : Finset (Fin 20)).fold max ⊥ fun g => X (ix3 b n g)) = s.1 :=
    le_antisymm hle (hg ▸ (Finset.le_fold_max (β := EReal) _).mpr (Or.inr ⟨g, Finset.mem_univ _, le_refl _⟩))
  rw [hm]
  exact ⟨hg, fun h k => (hall h).resolve_right fun q => absurd k (not_lt.mpr q.2)⟩

/-- The reference's chosen row is the first one of the largest overlap. -/
theorem v58_eq (n : Fin 5020) : ∃ g : Fin 20, res_main_v58 V0 (ix2 b n) = BitVec.ofNat 32 g ∧
    (⊥ < best (box V0 b n) (G V0 b) → First (fun g => ov (box V0 b n) (G V0 b g)) (best (box V0 b n) (G V0 b)) g) := by
  obtain ⟨g, h1, h2⟩ := argmax_last b (res_main_v56 V0) n
  refine ⟨g, h1, ?_⟩
  simp only [v56_eq] at h2
  exact h2

theorem v60_iff (n : Fin 5020) : (res_main_v60 V0 (ix2 b n) : BitVec 1) = (1 : BitVec 1) ↔ half ≤ best (box V0 b n) (G V0 b) := by
  rw [← v57_eq]
  unfold res_main_v60
  generalize res_main_v57 V0 = M
  exact Ideal.cmp_oge_eq_one (M (ix2 b n)) half

theorem v65_iff (n : Fin 5020) : (res_main_v65 V0 (ix2 b n) : BitVec 1) = (1 : BitVec 1) ↔ best (box V0 b n) (G V0 b) < half ∧ zero ≤ best (box V0 b n) (G V0 b) := by
  rw [← v57_eq]
  unfold res_main_v65
  generalize res_main_v57 V0 = M
  exact (andi_eq_one _ _).trans (and_congr (Ideal.cmp_olt_eq_one (M (ix2 b n)) half) (Ideal.cmp_oge_eq_one (M (ix2 b n)) zero))

/-- The scores. -/
theorem v66_eq (n : Fin 5020) : res_main_v66 V0 (ix2 b n) = fgScore True (best (box V0 b n) (G V0 b)) := by
  have h : (res_main_v60 V0 (ix2 b n) : BitVec 1) = (1 : BitVec 1) ↔ True ∧ half ≤ best (box V0 b n) (G V0 b) := by rw [true_and]; exact v60_iff V0 b n
  rw [← select_fg h, ← v57_eq]
  rfl

theorem v67_eq (n : Fin 5020) : res_main_v67 V0 (ix2 b n) = bgScore True (best (box V0 b n) (G V0 b)) := by
  have h : (res_main_v65 V0 (ix2 b n) : BitVec 1) = (1 : BitVec 1) ↔ (True ∧ best (box V0 b n) (G V0 b) < half) ∧ zero ≤ best (box V0 b n) (G V0 b) := by
    rw [true_and]; exact v65_iff V0 b n
  rw [← select_bg h, ← v57_eq]
  rfl

end Cert.Roi.Ref

end
-- ==== Proof.RefKeep.lean ====
/- The reference's chosen candidates: each slot keeps the candidate whose rank is the slot, and what its gathers read there. -/
module

public import proofs.«01_k».proof.Proof.RefBest

@[expose] public section

set_option maxRecDepth 16384

noncomputable section

namespace Cert.Roi.Ref

open Idealize.ShloMosaic Idealize.ShloMosaic.TcCoe Cert.ReferenceIdeal Cert.ReferenceIdeal.Value Cert.Roi

variable (V0 : Valuation τ sig (Elt Ideal)) (b : Fin 2)

/-- A start index inside the clamped range is read as it is. -/
theorem clamp_word (p n : ℕ) (h : p < n) (hn : n ≤ 5020) : min (BitVec.ofNat 32 p).toInt.toNat (n - 1) = p := by
  have h1 : (BitVec.ofNat 32 p).toInt.toNat = p := by
    rw [WordCmp.toInt_eq_toNat_of_lt_half (by rw [BitVec.toNat_ofNat]; omega), Int.toNat_natCast, BitVec.toNat_ofNat]
    omega
  rw [h1]
  omega

theorem gather_box (X : S2x5020x4.Idx → EReal) (I : IVec S2x256x1 32) (s : Fin 256) (p : Fin 5020) (k : Fin 4)
    (h : I (ix3 b s 0) = BitVec.ofNat 32 p) :
    Host.gather gather_S2x5020x4_S2x256x1_S2x256x4_2_1_0_0_1_2_114 X I (ix3 b s k) = X (ix3 b p k) := by
  unfold Host.gather
  congr 1
  funext a
  fin_cases a
  · exact Fin.ext (Nat.zero_add (b : ℕ))
  · refine Fin.ext ?_
    refine Eq.trans (?_ : _ = min (I (ix3 b s 0)).toInt.toNat (5020 - 1)) (by rw [h]; exact clamp_word p 5020 p.isLt le_rfl)
    refine congrArg (fun i => min (I i).toInt.toNat (5020 - 1)) (?_ : _ = ix3 b s 0)
    funext c
    fin_cases c <;> rfl
  · exact Fin.ext (Nat.zero_add _)

theorem gather_row (X : S2x20x5.Idx → EReal) (I : IVec S2x256x1 32) (s : Fin 256) (p : Fin 20) (k : Fin 5)
    (h : I (ix3 b s 0) = BitVec.ofNat 32 p) :
    Host.gather gather_S2x20x5_S2x256x1_S2x256x5_2_1_0_0_1_2_115 X I (ix3 b s k) = X (ix3 b p k) := by
  unfold Host.gather
  congr 1
  funext a
  fin_cases a
  · exact Fin.ext (Nat.zero_add (b : ℕ))
  · refine Fin.ext ?_
    refine Eq.trans (?_ : _ = min (I (ix3 b s 0)).toInt.toNat (20 - 1)) (by rw [h]; exact clamp_word p 20 p.isLt (by decide))
    refine congrArg (fun i => min (I i).toInt.toNat (20 - 1)) (?_ : _ = ix3 b s 0)
    funext c
    fin_cases c <;> rfl
  · exact Fin.ext (Nat.zero_add _)

theorem gather_one {α : Type} (X : S2x5020.Idx → α) (I : IVec S2x256x1 32) (s : Fin 256) (p : Fin 5020)
    (h : I (ix3 b s 0) = BitVec.ofNat 32 p) :
    Host.gather gather_S2x5020_S2x256x1_S2x256_n_1_0_0_1_2_11 X I (ix2 b s) = X (ix2 b p) := by
  unfold Host.gather
  congr 1
  funext a
  fin_cases a
  · exact Fin.ext (Nat.zero_add (b : ℕ))
  · refine Fin.ext ?_
    refine Eq.trans (?_ : _ = min (I (ix3 b s 0)).toInt.toNat (5020 - 1)) (by rw [h]; exact clamp_word p 5020 p.isLt le_rfl)
    refine congrArg (fun i => min (I i).toInt.toNat (5020 - 1)) (?_ : _ = ix3 b s 0)
    funext c
    fin_cases c <;> rfl

/-- A word that counts something is not negative, so the wrap-around for negative positions leaves it. -/
theorem wrap_word (p : ℕ) (h : p < 5020) (c : BitVec 32) :
    Scalar.select (IntOp.cmpi .slt (BitVec.ofNat 32 p) 0#32) c (BitVec.ofNat 32 p) = BitVec.ofNat 32 p := by
  refine if_neg fun q => ?_
  have := (WordCmp.cmpi_slt_ofNat_eq_one_iff (a := p) (b := 0) (by omega) (by omega)).mp q
  omega

theorem along_ix2 (s : Fin 5020) (k : Fin 5020) (h : 1 < S2x5020.rank) : (ix2 b s : S2x5020.Idx).along ⟨1, h⟩ k = ix2 b k := by
  funext a
  fin_cases a <;> rfl

theorem sortBy_at {sh : Shape} {ι α : Type} (d : ℕ) (hd : d < sh.rank) (cmp : ι → ι → BitVec 1) (rows : sh.Idx → ι) (x : sh.Idx → α) (j : sh.Idx) :
    Host.sortBy sh d cmp rows x j
      = x (j.along ⟨d, hd⟩ (sortedFrom (fun k k' => cmp (rows (j.along ⟨d, hd⟩ k)) (rows (j.along ⟨d, hd⟩ k')) == 1#1) (j ⟨d, hd⟩))) := by
  unfold Host.sortBy
  exact dif_pos hd

/-- The positions a sort by falling score leaves: at position `s` the entry of rank `s`. -/
theorem sort_rank (X : S2x5020.Idx → EReal) (s : Fin 5020) :
    ∃ p : Fin 5020, (Host.sort2 S2x5020 1 (fun l r => FloatOps.cmpfTotal (F := Ideal) (φ := .f32) .gt l.1 r.1) X (iotaInDim S2x5020 32 1)).2 (ix2 b s) = BitVec.ofNat 32 p
      ∧ rank (fun n => X (ix2 b n)) p = s := by
  have hR : ∀ k k' : Fin 5020, (Ideal.cmp .ogt (X (ix2 b k)) (X (ix2 b k')) == 1#1) = true ↔ X (ix2 b k') < X (ix2 b k) :=
    fun k k' => beq_iff_eq.trans (Ideal.cmp_ogt_eq_one _ _)
  have hr := rank_sortedFrom (S := fun n : Fin 5020 => X (ix2 b n)) (fun k k' : Fin 5020 => Ideal.cmp .ogt (X (ix2 b k)) (X (ix2 b k')) == 1#1) hR s
  refine ⟨sortedFrom (fun k k' : Fin 5020 => Ideal.cmp .ogt (X (ix2 b k)) (X (ix2 b k')) == 1#1) s, ?_, hr⟩
  generalize hK : sortedFrom (fun k k' : Fin 5020 => Ideal.cmp .ogt (X (ix2 b k)) (X (ix2 b k')) == 1#1) s = K
  rw [Host.sort2_eq_sortBy]
  dsimp only
  rw [sortBy_at 1 (by decide)]
  have h2 : 1 < S2x5020.rank := by decide
  have hf : (fun k k' : Fin 5020 => FloatOps.cmpfTotal (F := Ideal) (φ := .f32) .gt (X ((ix2 b s : S2x5020.Idx).along ⟨1, h2⟩ k)) (X ((ix2 b s : S2x5020.Idx).along ⟨1, h2⟩ k')) == 1#1)
      = fun k k' : Fin 5020 => Ideal.cmp .ogt (X (ix2 b k)) (X (ix2 b k')) == 1#1 := by
    funext k k'
    rw [along_ix2, along_ix2]
    rfl
  have hq := (congrArg (fun R : Fin 5020 → Fin 5020 → Bool => sortedFrom R s) hf).trans hK
  dsimp only at hq
  have hw : iotaInDim S2x5020 32 1 ((ix2 b s : S2x5020.Idx).along ⟨1, h2⟩ K) = BitVec.ofNat 32 K := by
    rw [along_ix2]
    rfl
  rw [← hq] at hw ⊢
  exact hw

theorem top_fg (X : S2x5020.Idx → EReal) (s : Fin 64) :
    ∃ p : Fin 5020, (Host.topK S2x64 1 (FloatOps.cmpfTotal (F := Ideal) (φ := .f32) .gt) X Gen.sliceFits_S2x5020_S2x64).2 (ix2 b s) = BitVec.ofNat 32 p
      ∧ rank (fun n => X (ix2 b n)) p = s := by
  obtain ⟨p, h1, h2⟩ := sort_rank b X (s.castLE (by decide))
  refine ⟨p, ?_, h2⟩
  change extractStridedSlice S2x64 (fun _ => 0) (Host.sort2 S2x5020 1 (fun l r => FloatOps.cmpfTotal (F := Ideal) (φ := .f32) .gt l.1 r.1) X (iotaInDim S2x5020 32 1)).2 Gen.sliceFits_S2x5020_S2x64 (ix2 b s) = _
  generalize (Host.sort2 S2x5020 1 (fun l r => FloatOps.cmpfTotal (F := Ideal) (φ := .f32) .gt l.1 r.1) X (iotaInDim S2x5020 32 1)).2 = Y at h1 ⊢
  pointwise []
  exact h1

theorem top_bg (X : S2x5020.Idx → EReal) (s : Fin 192) :
    ∃ p : Fin 5020, (Host.topK S2x192 1 (FloatOps.cmpfTotal (F := Ideal) (φ := .f32) .gt) X Gen.sliceFits_S2x5020_S2x192).2 (ix2 b s) = BitVec.ofNat 32 p
      ∧ rank (fun n => X (ix2 b n)) p = s := by
  obtain ⟨p, h1, h2⟩ := sort_rank b X (s.castLE (by decide))
  refine ⟨p, ?_, h2⟩
  change extractStridedSlice S2x192 (fun _ => 0) (Host.sort2 S2x5020 1 (fun l r => FloatOps.cmpfTotal (F := Ideal) (φ := .f32) .gt l.1 r.1) X (iotaInDim S2x5020 32 1)).2 Gen.sliceFits_S2x5020_S2x192 (ix2 b s) = _
  generalize (Host.sort2 S2x5020 1 (fun l r => FloatOps.cmpfTotal (F := Ideal) (φ := .f32) .gt l.1 r.1) X (iotaInDim S2x5020 32 1)).2 = Y at h1 ⊢
  pointwise []
  exact h1

/-- Slot `s` of image `b` keeps candidate `p`: of foreground rank `s` among the first 64 slots, of background rank `s - 64` after. -/
def Kept (s : Fin 256) (p : Fin 5020) : Prop :=
  ((s : ℕ) < 64 → rank (fun n => fgScore True (best (box V0 b n) (G V0 b))) p = s)
    ∧ (64 ≤ (s : ℕ) → rank (fun n => bgScore True (best (box V0 b n) (G V0 b))) p = s - 64)

theorem v68_eq (s : Fin 256) : ∃ p : Fin 5020, res_main_v68 V0 (ix2 b s) = BitVec.ofNat 32 p ∧ Kept V0 b s p := by
  by_cases hs : (s : ℕ) < 64
  · obtain ⟨p, h1, h2⟩ := top_fg b (res_main_v66 V0) ⟨s, hs⟩
    simp only [v66_eq] at h2
    refine ⟨p, Eq.trans ?_ h1, fun _ => h2, fun h => by omega⟩
    unfold res_main_v68
    generalize (Host.topK S2x64 _ _ _ _).2 = Y
    generalize (Host.topK S2x192 _ _ _ _).2 = Z
    pointwise []
    rw [dif_pos hs]
  · obtain ⟨p, h1, h2⟩ := top_bg b (res_main_v67 V0) ⟨s - 64, by omega⟩
    simp only [v67_eq] at h2
    refine ⟨p, Eq.trans ?_ h1, fun h => by omega, fun _ => h2⟩
    unfold res_main_v68
    generalize (Host.topK S2x64 _ _ _ _).2 = Y
    generalize (Host.topK S2x192 _ _ _ _).2 = Z
    pointwise []
    rw [dif_neg hs]

/-- What slot `s` reads of its candidate `p`: the box, the chosen row, the foreground bit. -/
theorem call3_eq (s : Fin 256) (p : Fin 5020) (h : res_main_v68 V0 (ix2 b s) = BitVec.ofNat 32 p) :
    res_main_call3_v4 V0 (ix3 b s 0) = BitVec.ofNat 32 p := by
  have e : res_main_v69 V0 (ix3 b s 0) = BitVec.ofNat 32 p := by
    rw [← h]
    pointwise [res_main_v69]
  pointwise [res_main_call3_v4]
  rw [e]
  exact wrap_word p (by omega) _

theorem v70_eq (s : Fin 256) (p : Fin 5020) (h : res_main_v68 V0 (ix2 b s) = BitVec.ofNat 32 p) (k : Fin 4) :
    res_main_v70 V0 (ix3 b s k) = box V0 b p k := by
  rw [← v4_eq]
  exact gather_box b (res_main_v4 V0) _ s p k (call3_eq V0 b s p h)

theorem call4_eq (s : Fin 256) (p : Fin 5020) (h : res_main_v68 V0 (ix2 b s) = BitVec.ofNat 32 p) :
    shapeCast S2x256x1 (res_main_call4_v4 V0) Gen.shapeCasts_S2x256_S2x256x1 (ix3 b s 0) = BitVec.ofNat 32 p := by
  pointwise [res_main_call4_v4]
  rw [h]
  exact wrap_word p (by omega) _

theorem v75_eq (s : Fin 256) (p : Fin 5020) (h : res_main_v68 V0 (ix2 b s) = BitVec.ofNat 32 p) (g : Fin 20)
    (hg : res_main_v58 V0 (ix2 b p) = BitVec.ofNat 32 g) (k : Fin 5) : res_main_v75 V0 (ix3 b s k) = G V0 b g k := by
  have e : res_main_v74 V0 (ix3 b s 0) = BitVec.ofNat 32 g := by
    rw [← hg, ← gather_one b (res_main_v58 V0) _ s p (call4_eq V0 b s p h)]
    pointwise [res_main_v74]
  refine gather_row b (V0 (Proc.devRef .tc main_arg1)) _ s g k ?_
  pointwise [res_main_call5_v4]
  rw [e]
  exact wrap_word g (by omega) _

theorem v114_iff (s : Fin 256) (p : Fin 5020) (h : res_main_v68 V0 (ix2 b s) = BitVec.ofNat 32 p) :
    (res_main_v114 V0 (ix2 b s) : BitVec 1) = (1 : BitVec 1) ↔ half ≤ best (box V0 b p) (G V0 b) ∧ (s : ℕ) < 64 := by
  have e : (res_main_v113 V0 (ix2 b s) : BitVec 1) = (1 : BitVec 1) ↔ (s : ℕ) < 64 := by
    refine Iff.trans (?_ : _ ↔ IntOp.cmpi .slt (BitVec.ofNat 32 s) (BitVec.ofNat 32 64) = 1#1) (WordCmp.cmpi_slt_ofNat_eq_one_iff (by omega) (by omega))
    pointwise [res_main_v113]
    exact Iff.rfl
  have e6 : shapeCast S2x256x1 (res_main_call6_v4 V0) Gen.shapeCasts_S2x256_S2x256x1 (ix3 b s 0) = BitVec.ofNat 32 p := call4_eq V0 b s p h
  refine (andi_eq_one _ _).trans (and_congr ?_ e)
  rw [← v60_iff]
  exact iff_of_eq (congrArg (fun c : BitVec 1 => c = 1) (gather_one b (res_main_v60 V0) _ s p e6))

end Cert.Roi.Ref

end
-- ==== Proof.RefRows.lean ====
/- The reference's results, slot by slot, in terms of the candidate a slot keeps and of that candidate's first best row. -/
module

public import proofs.«01_k».proof.Proof.RefKeep

@[expose] public section

set_option maxRecDepth 16384

noncomputable section

namespace Cert.Roi.Ref

open Idealize.ShloMosaic Idealize.ShloMosaic.TcCoe Cert.ReferenceIdeal Cert.ReferenceIdeal.Value Cert.Roi

variable (V0 : Valuation τ sig (Elt Ideal)) (b : Fin 2) (s : Fin 256) (p : Fin 5020) (g : Fin 20)
  (hp : res_main_v68 V0 (ix2 b s) = BitVec.ofNat 32 p) (hg : res_main_v58 V0 (ix2 b p) = BitVec.ofNat 32 g)

include hp hg

/-- The first result: the image's number, then the kept box. -/
theorem rois_eq (k : Fin 5) : res_main_v72 V0 (ix3 b s k)
    = Fin.cases (motive := fun _ => EReal) (FloatOps.sitofp (F := Ideal) .f32 (BitVec.ofNat 32 (b : Fin 2))) (box V0 b p) k := by
  refine Fin.cases ?_ (fun k => ?_) k
  · pointwise [res_main_v72]
    exact (Fin.cases_zero (motive := fun _ => EReal)).symm
  · refine Eq.trans ?_ (v70_eq V0 b s p hp k)
    have h1 : ¬ (k.succ : Fin 5).val < 1 := by rw [Fin.val_succ]; omega
    pointwise [res_main_v72]
    rw [dif_neg h1]
    congr 2

/-- A slot's label: the first best row's class for a foreground slot whose box reaches one half. -/
def label : EReal := gate (half ≤ best (box V0 b p) (G V0 b) ∧ (s : ℕ) < 64) (G V0 b g 4)

theorem label_eq : res_main_v117 V0 (ix2 b s) = label V0 b s p g := by
  unfold label
  rw [← select_gate (v114_iff V0 b s p hp), ← v75_eq V0 b s p hp g hg 4]
  pointwise [res_main_v117]
  exact congrArg (Scalar.select _ _) zero_eq

theorem pos_iff : (res_main_v119 V0 (ix2 b s) : BitVec 1) = (1 : BitVec 1) ↔ 0 < label V0 b s p g := by
  rw [← label_eq V0 b s p g hp hg, ← zero_eq]
  have e : res_main_v119 V0 = cmpf .ogt (res_main_v117 V0) (broadcastInDim S2x256 ![] Gen.bcast_S_S2x256 (constant S_ .f32 0x00000000#32)) := rfl
  rw [e]
  exact Ideal.cmp_ogt_eq_one _ _

theorem v81_eq (k : Fin 2) : res_main_v81 V0 (ix3 b s k) = box V0 b p ⟨2 + k, by omega⟩ - box V0 b p ⟨k, by omega⟩ + one := by
  rw [← v70_eq V0 b s p hp, ← v70_eq V0 b s p hp]
  pointwise [res_main_v81, res_main_v79]

theorem v76_eq (k : Fin 4) : res_main_v76 V0 (ix3 b s k) = G V0 b g k.castSucc := by
  rw [← v75_eq V0 b s p hp g hg]
  pointwise [res_main_v76]
  rfl

theorem v86_eq (k : Fin 2) : res_main_v86 V0 (ix3 b s k) = G V0 b g ⟨2 + k, by omega⟩ - G V0 b g ⟨k, by omega⟩ + one := by
  refine Eq.trans ?_ (congrArg₂ (fun x y : EReal => x - y + one) (v76_eq V0 b s p g hp hg ⟨2 + k, by omega⟩) (v76_eq V0 b s p g hp hg ⟨k, by omega⟩))
  pointwise [res_main_v86, res_main_v84]

theorem v100_eq (k : Fin 2) : res_main_v100 V0 (ix3 b s k)
    = shift (box V0 b p ⟨k, by omega⟩) (box V0 b p ⟨2 + k, by omega⟩) (G V0 b g ⟨k, by omega⟩) (G V0 b g ⟨2 + k, by omega⟩) := by
  unfold shift
  rw [← v81_eq V0 b s p g hp hg, ← v86_eq V0 b s p g hp hg, ← v70_eq V0 b s p hp]
  have e : G V0 b g ⟨k, by omega⟩ = res_main_v76 V0 (ix3 b s ⟨k, by omega⟩) := (v76_eq V0 b s p g hp hg ⟨k, by omega⟩).symm
  rw [e]
  pointwise [res_main_v100, res_main_v94, res_main_v90]

theorem v106_eq (k : Fin 2) : res_main_v106 V0 (ix3 b s k)
    = stretch (box V0 b p ⟨k, by omega⟩) (box V0 b p ⟨2 + k, by omega⟩) (G V0 b g ⟨k, by omega⟩) (G V0 b g ⟨2 + k, by omega⟩) := by
  unfold stretch
  rw [← v81_eq V0 b s p g hp hg, ← v86_eq V0 b s p g hp hg]
  pointwise [res_main_v106]

/-- The regression targets, where the label is positive. -/
theorem target_eq (k : Fin 4) : res_main_v121 V0 (ix3 b s k)
    = gate (0 < label V0 b s p g) (target (box V0 b p) (fun k => G V0 b g k.castSucc) k) := by
  rw [← select_gate (pos_iff V0 b s p g hp hg)]
  have e : target (box V0 b p) (fun k => G V0 b g k.castSucc) k
      = if h : (k : ℕ) < 2 then res_main_v100 V0 (ix3 b s ⟨k, h⟩) else res_main_v106 V0 (ix3 b s ⟨k - 2, by omega⟩) := by
    fin_cases k
    · exact (v100_eq V0 b s p g hp hg 0).symm
    · exact (v100_eq V0 b s p g hp hg 1).symm
    · exact (v106_eq V0 b s p g hp hg 0).symm
    · exact (v106_eq V0 b s p g hp hg 1).symm
  rw [e]
  pointwise [res_main_v121, res_main_v120]
  exact congrArg (Scalar.select _ _) zero_eq

/-- The weights: one, where the label is positive. -/
theorem weight_eq (k : Fin 4) : res_main_v123 V0 (ix3 b s k) = gate (0 < label V0 b s p g) 1 := by
  rw [← select_gate (pos_iff V0 b s p g hp hg)]
  pointwise [res_main_v123, res_main_v120]
  exact congrArg (Scalar.select _ _) zero_eq

theorem weight2_eq (k : Fin 4) : uitofp (F := Ideal) .f32 (res_main_v125 V0) (ix3 b s k) = gate (0 < label V0 b s p g) 1 := by
  have e : res_main_v125 V0 = cmpf .ogt (res_main_v123 V0) (broadcastInDim S2x256x4 ![] Gen.bcast_S_S2x256x4 (constant S_ .f32 0x00000000#32)) := rfl
  have h : (res_main_v125 V0 (ix3 b s k) : BitVec 1) = (1 : BitVec 1) ↔ 0 < label V0 b s p g := by
    rw [e]
    refine (Ideal.cmp_ogt_eq_one _ _).trans ?_
    rw [weight_eq V0 b s p g hp hg k]
    unfold gate
    by_cases q : 0 < label V0 b s p g
    · rw [if_pos q]
      exact iff_of_true (lt_of_le_of_lt (le_of_eq zero_eq) zero_lt_one) q
    · rw [if_neg q]
      exact iff_of_false (not_lt.mpr (le_of_eq zero_eq.symm)) q
  generalize res_main_v125 V0 = M at h
  unfold gate
  by_cases q : 0 < label V0 b s p g
  · rw [if_pos q]
    show (((M (ix3 b s k) : BitVec 1).toNat : ℝ) : EReal) = 1
    rw [h.mpr q, show ((1 : BitVec 1).toNat) = 1 by decide]
    norm_num
  · rw [if_neg q]
    show (((M (ix3 b s k) : BitVec 1).toNat : ℝ) : EReal) = 0
    rw [(bit_ne_one_iff _).mp fun k => q (h.mp k), show ((0 : BitVec 1).toNat) = 0 by decide]
    norm_num

end Cert.Roi.Ref

end
-- ==== Proof.Equation.lean ====
/- The kernel's results are the reference's: array by array, from equal arguments. -/
module

public import proofs.«01_k».proof.Proof.KernelRows
public import proofs.«01_k».proof.Proof.RefRows

@[expose] public section

set_option maxRecDepth 16384

noncomputable section

namespace Cert.Roi.Eqn

open Idealize.ShloMosaic Idealize.ShloMosaic.TcCoe Cert.KernelIdeal Cert.KernelIdeal.Gen Cert.Roi
open Cert.ReferenceIdeal.Value (res_main_v58 res_main_v68 res_main_v72 res_main_v117 res_main_v121 res_main_v123 res_main_v125)

variable (m : (ℓ : Loc nD τ sig) → Buf (Elt Ideal) ℓ) (ρ : Dev nD → PrngReg) (c : Dev nD)
  (V0 : Valuation Cert.ReferenceIdeal.τ Cert.ReferenceIdeal.sig (Elt Ideal))
  (hA : ∀ b, Ref.A V0 b = Kern.A m ρ c b) (hG : ∀ b, Ref.G V0 b = Kern.G m ρ c b)

include hA hG

/-- Every slot holds one candidate and one ground-truth row, and the third kernel's data row of the slot is theirs. -/
theorem slot_facts (b : Fin 2) (s : Fin 256) : ∃ (p : Fin 5020) (g : Fin 20),
    res_main_v68 V0 (ix2 b s) = BitVec.ofNat 32 p ∧ res_main_v58 V0 (ix2 b p) = BitVec.ofNat 32 g
      ∧ IsRow (Ref.A V0 b) (Ref.G V0 b) p (Kern.row m ρ c b s)
      ∧ (⊥ < best (Ref.box V0 b p) (Ref.G V0 b) → First (fun g => ov (Ref.box V0 b p) (Ref.G V0 b g)) (best (Ref.box V0 b p) (Ref.G V0 b)) g) := by
  obtain ⟨p, hp, k1, k2⟩ := Ref.v68_eq V0 b s
  obtain ⟨g, hg, k3⟩ := Ref.v58_eq V0 b p
  refine ⟨p, g, hp, hg, ?_, k3⟩
  unfold Ref.box at k1 k2
  rw [hA, hG] at k1 k2 ⊢
  exact Kern.row_eq m ρ c b s p k1 k2

/-- The kept boxes. -/
theorem rois_eq : (W7 m ρ c (Proc.devRef .tc main_v0_0) : Vec Ideal S2x256x5 .f32) = res_main_v72 V0 := by
  refine ((W7_of m ρ c main_v0_0 (by decide)).trans ((W6_arr m ρ c 3).trans (Gather.arr3_eq (V5 m ρ) c))).trans ?_
  funext j
  idx_vars j
  revert j0 j1 j2
  intro b s k
  obtain ⟨p, g, hp, hg, hD, h1⟩ := slot_facts m ρ c V0 hA hG b s
  refine Eq.trans ?_ (Ref.rois_eq V0 b s p g hp hg k).symm
  exact congrArg (fun f => Fin.cases (motive := fun _ => EReal) (FloatOps.sitofp (F := Ideal) .f32 (BitVec.ofNat 32 (b : Fin 2))) f k) (funext hD.box)

/-- The labels. -/
theorem labels_eq : (W7 m ρ c (Proc.devRef .tc main_v0_3) : Vec Ideal S2x256 .f32) = res_main_v117 V0 := by
  funext j
  idx_vars j
  revert j0 j1
  intro b s
  obtain ⟨p, g, hp, hg, hD, h1⟩ := slot_facts m ρ c V0 hA hG b s
  refine Eq.trans ?_ (Ref.label_eq V0 b s p g hp hg).symm
  refine (Host.out3_eq (W6 m ρ c) b s).trans ?_
  refine (congrFun ((W6_arr m ρ c 4).trans (Gather.arr4_eq (V5 m ρ) c)) (ix3 b s 0)).trans ?_
  exact label_row hD h1 s

/-- The regression targets. -/
theorem targets_eq : (W7 m ρ c (Proc.devRef .tc main_v0_6) : Vec Ideal S2x256x4 .f32) = res_main_v121 V0 := by
  refine ((W7_of m ρ c main_v0_6 (by decide)).trans ((W6_arr m ρ c 5).trans (Gather.arr5_eq (V5 m ρ) c))).trans ?_
  funext j
  idx_vars j
  revert j0 j1 j2
  intro b s k
  obtain ⟨p, g, hp, hg, hD, h1⟩ := slot_facts m ρ c V0 hA hG b s
  refine Eq.trans ?_ (Ref.target_eq V0 b s p g hp hg k).symm
  exact target_row hD h1 s k

/-- The inside weights, and the outside weights, which the kernel returns as the same array. -/
theorem weights_gate (b : Fin 2) (s : Fin 256) (k : Fin 4) (p : Fin 5020) (g : Fin 20) (hD : IsRow (Ref.A V0 b) (Ref.G V0 b) p (Kern.row m ρ c b s))
    (h1 : ⊥ < best (Ref.box V0 b p) (Ref.G V0 b) → First (fun g => ov (Ref.box V0 b p) (Ref.G V0 b g)) (best (Ref.box V0 b p) (Ref.G V0 b)) g) :
    (W7 m ρ c (Proc.devRef .tc main_v0_7) : Vec Ideal S2x256x4 .f32) (ix3 b s k) = gate (0 < Ref.label V0 b s p g) 1 := by
  refine (congrFun ((W7_of m ρ c main_v0_7 (by decide)).trans ((W6_arr m ρ c 6).trans (Gather.arr6_eq (V5 m ρ) c))) (ix3 b s k)).trans ?_
  exact congrArg (fun x : EReal => gate (0 < x) 1) (label_row hD h1 s)

theorem weights_eq : (W7 m ρ c (Proc.devRef .tc main_v0_7) : Vec Ideal S2x256x4 .f32) = res_main_v123 V0 := by
  funext j
  idx_vars j
  revert j0 j1 j2
  intro b s k
  obtain ⟨p, g, hp, hg, hD, h1⟩ := slot_facts m ρ c V0 hA hG b s
  exact (weights_gate m ρ c V0 hA hG b s k p g hD h1).trans (Ref.weight_eq V0 b s p g hp hg k).symm

theorem weights2_eq : (W7 m ρ c (Proc.devRef .tc main_v0_7) : Vec Ideal S2x256x4 .f32) = uitofp (F := Ideal) .f32 (res_main_v125 V0) := by
  funext j
  idx_vars j
  revert j0 j1 j2
  intro b s k
  obtain ⟨p, g, hp, hg, hD, h1⟩ := slot_facts m ρ c V0 hA hG b s
  exact (weights_gate m ρ c V0 hA hG b s k p g hD h1).trans (Ref.weight2_eq V0 b s p g hp hg k).symm

end Cert.Roi.Eqn

end
-- ==== Proof.Algebraic.lean ====
/- The value claim: from equal arguments the idealized kernel and the idealized reference end with the same nine results. -/
module

public import proofs.«01_k».proof.Defs
public import proofs.«01_k».proof.Proof.Equation
public import proofs.«01_k».proof.Proof.ReferenceRun

@[expose] public section

set_option maxRecDepth 16384

noncomputable section

namespace Cert.Roi

open Idealize.ShloMosaic Idealize.ShloMosaic.TcCoe Idealize.SL.Sem Cert.KernelIdeal Cert.KernelIdeal.Gen

/-- Both programs end with the kernel's results: the kernel because that is what it leaves, the reference because its
    own expressions of the arguments are the same arrays. -/
theorem algebraic : Cert.algebraic_KernelIdeal_ReferenceIdeal (hKernelIdeal := Cert.KernelIdeal.Gen.facts) (hReferenceIdeal := Cert.ReferenceIdeal.Gen.facts) := by
  intro m ρ m' ρ' _ hargs
  refine ⟨fun c => W7 m ρ c main_v0_0, fun c => W7 m ρ c main_v0_1, fun c => W7 m ρ c main_v0_2, fun c => W7 m ρ c main_v0_3,
    fun c => W7 m ρ c main_v0_4, fun c => W7 m ρ c main_v0_5, fun c => W7 m ρ c main_v0_6, fun c => W7 m ρ c main_v0_7, fun c => W7 m ρ c main_v0_7, ?_, ?_⟩
  · refine (θ_run defs _ _).mono (fun r h c => ?_) (ends (F := Ideal) m ρ)
    have k := fun (b : Ref sig .tc) (hb : ¬ (Proc.devRef .tc b : DevRef τ sig).isScoped) => h.1 c _ (mem_uc b hb)
    exact ⟨k main_v0_0 (by decide), k main_v0_1 (by decide), k main_v0_2 (by decide), k main_v0_3 (by decide), k main_v0_4 (by decide),
      k main_v0_5 (by decide), k main_v0_6 (by decide), k main_v0_7 (by decide), k main_v0_7 (by decide),
      (k main_arg0 (by decide)).trans (W7_main_arg0 m ρ c), (k main_arg1 (by decide)).trans (W7_main_arg1 m ρ c)⟩
  · refine (θ_run Cert.ReferenceIdeal.defs _ _).mono (fun r h c => ?_) (Cert.ReferenceIdeal.Value.run (F := Ideal) m' ρ')
    obtain ⟨h0, h1, h2, h3, h4, h5, h6, h7, h8, h9, h10⟩ := h c
    have hA : ∀ b, Ref.A (StableHlo.launchContents m' c) b = Kern.A m ρ c b := fun b => funext fun n => funext fun k =>
      congrFun (hargs c).1 (ix3 b n k)
    have hG : ∀ b, Ref.G (StableHlo.launchContents m' c) b = Kern.G m ρ c b := fun b => funext fun n => funext fun k =>
      congrFun (hargs c).2 (ix3 b n k)
    exact ⟨h0.trans (Eqn.rois_eq m ρ c _ hA hG).symm, h1.trans (Host.out1_eq (W6 m ρ c)).symm, h2.trans (Host.out2_eq (W6 m ρ c)).symm,
      h3.trans (Eqn.labels_eq m ρ c _ hA hG).symm, h4.trans (Host.out4_eq (W6 m ρ c)).symm, h5.trans (Host.out5_eq (W6 m ρ c)).symm,
      h6.trans (Eqn.targets_eq m ρ c _ hA hG).symm, h7.trans (Eqn.weights_eq m ρ c _ hA hG).symm,
      h8.trans (Eqn.weights2_eq m ρ c _ hA hG).symm, h9, h10⟩

end Cert.Roi

end
-- ==== Proof.lean ====
/- The claim: the three programs finish with their arguments unchanged and every semaphore at zero, the idealized
   kernel is the kernel's own text, and it computes what the reference computes, all nine results. -/
module

public import proofs.«01_k».proof.Defs
public import proofs.«01_k».proof.Proof.KernelFrame
public import proofs.«01_k».proof.Proof.ReferenceFrame
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    fun m g _ => Cert.ReferenceIdeal.Value.frame m g,
    trivial, Cert.Roi.algebraic⟩

end Cert.Proof

end
